-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S2048x2048 : Shape := ⟨2, ![2048, 2048]⟩
abbrev S8x256x1024 : Shape := ⟨3, ![8, 256, 1024]⟩
abbrev S8x2 : Shape := ⟨2, ![8, 2]⟩
abbrev S_ : Shape := ⟨0, ![]⟩
abbrev S256x256 : Shape := ⟨2, ![256, 256]⟩
abbrev S256x1024 : Shape := ⟨2, ![256, 1024]⟩
abbrev S1x256x1024 : Shape := ⟨3, ![1, 256, 1024]⟩
abbrev S1x1 : Shape := ⟨2, ![1, 1]⟩
abbrev S1x128x1024 : Shape := ⟨3, ![1, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | .local _ .vmem, ⟨0, _⟩ => ⟨S2048x256, .f32⟩
  | .local _ .vmem, ⟨1, _⟩ => ⟨S256x2048, .f32⟩
  | .local _ .vmem, ⟨2, _⟩ => ⟨S2048x2048, .f32⟩
  | .local _ .vmem, ⟨3, _⟩ => ⟨S8x256x1024, .bf16⟩
  | .local _ .vmem, ⟨4, _⟩ => ⟨S8x256x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v14 : Index := Scalar.indexCast v13
  let c0 : Index := 0#32
  ![v14.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_28 : BitVec 32 := 1#32
  let v35 : BitVec 32 := Scalar.muli v7 c1_i32_28
  let v36 : BitVec 32 := Scalar.addi c0_i32_29 v35
  v36.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_40 : BitVec 32 := 1#32
  let v45 : BitVec 32 := Scalar.muli v5 c1_i32_40
  let v46 : BitVec 32 := Scalar.addi c0_i32_41 v45
  v46.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_52 : BitVec 32 := 1#32
  let v55 : BitVec 32 := Scalar.muli v7 c1_i32_52
  let v56 : BitVec 32 := Scalar.addi c0_i32_53 v55
  v56.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_63 : BitVec 32 := 1#32
  let v65 : BitVec 32 := Scalar.muli v5 c1_i32_63
  let v66 : BitVec 32 := Scalar.addi c0_i32_64 v65
  v66.toNat
def k0_off2 (d0 : Dev nD) (c0_i32_75 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v80 : BitVec 32 := Scalar.addi v2 c16_i32
  let c1_i32_74 : BitVec 32 := 1#32
  let v81 : BitVec 32 := Scalar.subi v80 c1_i32_74
  let v82 : BitVec 32 := Scalar.subi v81 c0_i32_75
  let c8_i32_76 : BitVec 32 := 8#32
  let v83 : BitVec 32 := Scalar.remsi v82 c8_i32_76
  let c256_i32_80 : BitVec 32 := 256#32
  let v87 : BitVec 32 := Scalar.muli v83 c256_i32_80
  let v88 : Index := Scalar.indexCast v87
  let c0_81 : Index := 0#32
  ![v88.toNat, 0]
def k0_off3 (d0 : Dev nD) (c0_i32_78 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v84 : BitVec 32 := Scalar.addi v2 c1_i32_77
  let v85 : BitVec 32 := Scalar.addi v84 c0_i32_78
  let c8_i32_79 : BitVec 32 := 8#32
  let v86 : BitVec 32 := Scalar.remsi v85 c8_i32_79
  let c256_i32_85 : BitVec 32 := 256#32
  let v94 : BitVec 32 := Scalar.muli v86 c256_i32_85
  let v95 : Index := Scalar.indexCast v94
  let c0_86 : Index := 0#32
  ![v95.toNat, 0]
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_124 : BitVec 32 := 1#32
  let v124 : BitVec 32 := Scalar.muli v7 c1_i32_124
  let v125 : BitVec 32 := Scalar.addi c0_i32_125 v124
  v125.toNat
def k0_dev8 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_165 : BitVec 32 := 1#32
  let v157 : BitVec 32 := Scalar.muli v5 c1_i32_165
  let v158 : BitVec 32 := Scalar.addi c0_i32_166 v157
  v158.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_205 : BitVec 32 := 1#32
  let v190 : BitVec 32 := Scalar.muli v7 c1_i32_205
  let v191 : BitVec 32 := Scalar.addi c0_i32_206 v190
  v191.toNat
def k0_dev10 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_246 : BitVec 32 := 1#32
  let v223 : BitVec 32 := Scalar.muli v5 c1_i32_246
  let v224 : BitVec 32 := Scalar.addi c0_i32_247 v223
  v224.toNat
def k0_dev11 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_302 : BitVec 32 := 1#32
  let v277 : BitVec 32 := Scalar.muli v7 c1_i32_302
  let v278 : BitVec 32 := Scalar.addi c0_i32_303 v277
  v278.toNat
def k0_dev12 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_343 : BitVec 32 := 1#32
  let v310 : BitVec 32 := Scalar.muli v5 c1_i32_343
  let v311 : BitVec 32 := Scalar.addi c0_i32_344 v310
  v311.toNat
def k0_dev13 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_384 : BitVec 32 := 1#32
  let v343 : BitVec 32 := Scalar.muli v7 c1_i32_384
  let v344 : BitVec 32 := Scalar.addi c0_i32_385 v343
  v344.toNat
def k0_dev14 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_425 : BitVec 32 := 1#32
  let v376 : BitVec 32 := Scalar.muli v5 c1_i32_425
  let v377 : BitVec 32 := Scalar.addi c0_i32_426 v376
  v377.toNat
def k0_dev15 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_481 : BitVec 32 := 1#32
  let v430 : BitVec 32 := Scalar.muli v7 c1_i32_481
  let v431 : BitVec 32 := Scalar.addi c0_i32_482 v430
  v431.toNat
def k0_dev16 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_522 : BitVec 32 := 1#32
  let v463 : BitVec 32 := Scalar.muli v5 c1_i32_522
  let v464 : BitVec 32 := Scalar.addi c0_i32_523 v463
  v464.toNat
def k0_dev17 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_563 : BitVec 32 := 1#32
  let v496 : BitVec 32 := Scalar.muli v7 c1_i32_563
  let v497 : BitVec 32 := Scalar.addi c0_i32_564 v496
  v497.toNat
def k0_dev18 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_604 : BitVec 32 := 1#32
  let v529 : BitVec 32 := Scalar.muli v5 c1_i32_604
  let v530 : BitVec 32 := Scalar.addi c0_i32_605 v529
  v530.toNat
def k0_dev19 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_660 : BitVec 32 := 1#32
  let v583 : BitVec 32 := Scalar.muli v7 c1_i32_660
  let v584 : BitVec 32 := Scalar.addi c0_i32_661 v583
  v584.toNat
def k0_dev20 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_701 : BitVec 32 := 1#32
  let v616 : BitVec 32 := Scalar.muli v5 c1_i32_701
  let v617 : BitVec 32 := Scalar.addi c0_i32_702 v616
  v617.toNat
def k0_dev21 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_742 : BitVec 32 := 1#32
  let v649 : BitVec 32 := Scalar.muli v7 c1_i32_742
  let v650 : BitVec 32 := Scalar.addi c0_i32_743 v649
  v650.toNat
def k0_dev22 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_783 : BitVec 32 := 1#32
  let v682 : BitVec 32 := Scalar.muli v5 c1_i32_783
  let v683 : BitVec 32 := Scalar.addi c0_i32_784 v682
  v683.toNat
def k0_dev23 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_839 : BitVec 32 := 1#32
  let v736 : BitVec 32 := Scalar.muli v7 c1_i32_839
  let v737 : BitVec 32 := Scalar.addi c0_i32_840 v736
  v737.toNat
def k0_dev24 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_880 : BitVec 32 := 1#32
  let v769 : BitVec 32 := Scalar.muli v5 c1_i32_880
  let v770 : BitVec 32 := Scalar.addi c0_i32_881 v769
  v770.toNat
def k0_dev25 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_921 : BitVec 32 := 1#32
  let v802 : BitVec 32 := Scalar.muli v7 c1_i32_921
  let v803 : BitVec 32 := Scalar.addi c0_i32_922 v802
  v803.toNat
def k0_dev26 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_962 : BitVec 32 := 1#32
  let v835 : BitVec 32 := Scalar.muli v5 c1_i32_962
  let v836 : BitVec 32 := Scalar.addi c0_i32_963 v835
  v836.toNat
def k0_dev27 (d0 : Dev nD) : Nat :=
  let c0_i32_1019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1018 : BitVec 32 := 1#32
  let v889 : BitVec 32 := Scalar.muli v7 c1_i32_1018
  let v890 : BitVec 32 := Scalar.addi c0_i32_1019 v889
  v890.toNat
def k0_dev28 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1059 : BitVec 32 := 1#32
  let v922 : BitVec 32 := Scalar.muli v5 c1_i32_1059
  let v923 : BitVec 32 := Scalar.addi c0_i32_1060 v922
  v923.toNat
def k0_dev29 (d0 : Dev nD) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1100 : BitVec 32 := 1#32
  let v955 : BitVec 32 := Scalar.muli v7 c1_i32_1100
  let v956 : BitVec 32 := Scalar.addi c0_i32_1101 v955
  v956.toNat
def k0_dev30 (d0 : Dev nD) : Nat :=
  let c0_i32_1142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1141 : BitVec 32 := 1#32
  let v988 : BitVec 32 := Scalar.muli v5 c1_i32_1141
  let v989 : BitVec 32 := Scalar.addi c0_i32_1142 v988
  v989.toNat
def k0_off4 (d0 : Dev nD) (c0_i32_1194 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v75 : BitVec 32 := Scalar.addi v2 c1_i32_69
  let c8_i32_70 : BitVec 32 := 8#32
  let v76 : BitVec 32 := Scalar.remsi v75 c8_i32_70
  let c256_i32_1193 : BitVec 32 := 256#32
  let v1051 : BitVec 32 := Scalar.muli v76 c256_i32_1193
  let v1052 : BitVec 32 := Scalar.addi v1051 c0_i32_1194
  let v1053 : Index := Scalar.indexCast v1052
  let c0_1195 : Index := 0#32
  ![v1053.toNat, 0]
def k0_dev31 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1205 : BitVec 32 := 1#32
  let v1059 : BitVec 32 := Scalar.muli v7 c1_i32_1205
  let v1060 : BitVec 32 := Scalar.addi c0_i32_1206 v1059
  v1060.toNat
def k0_off5 (d0 : Dev nD) (c0_i32_1242 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_71 : BitVec 32 := 8#32
  let v77 : BitVec 32 := Scalar.addi v2 c8_i32_71
  let c1_i32_72 : BitVec 32 := 1#32
  let v78 : BitVec 32 := Scalar.subi v77 c1_i32_72
  let c8_i32_73 : BitVec 32 := 8#32
  let v79 : BitVec 32 := Scalar.remsi v78 c8_i32_73
  let c256_i32_1241 : BitVec 32 := 256#32
  let v1101 : BitVec 32 := Scalar.muli v79 c256_i32_1241
  let v1102 : BitVec 32 := Scalar.addi v1101 c0_i32_1242
  let v1103 : Index := Scalar.indexCast v1102
  let c1024_1243 : Index := 1024#32
  ![v1103.toNat, 1024]
def k0_dev32 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1253 : BitVec 32 := 1#32
  let v1109 : BitVec 32 := Scalar.muli v5 c1_i32_1253
  let v1110 : BitVec 32 := Scalar.addi c0_i32_1254 v1109
  v1110.toNat
def k0_dev33 (d0 : Dev nD) : Nat :=
  let c0_i32_1302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1301 : BitVec 32 := 1#32
  let v1159 : BitVec 32 := Scalar.muli v7 c1_i32_1301
  let v1160 : BitVec 32 := Scalar.addi c0_i32_1302 v1159
  v1160.toNat
def k0_dev34 (d0 : Dev nD) : Nat :=
  let c0_i32_1350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1349 : BitVec 32 := 1#32
  let v1209 : BitVec 32 := Scalar.muli v5 c1_i32_1349
  let v1210 : BitVec 32 := Scalar.addi c0_i32_1350 v1209
  v1210.toNat
def k0_dev35 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1389 : BitVec 32 := 1#32
  let v1238 : BitVec 32 := Scalar.muli v7 c1_i32_1389
  let v1239 : BitVec 32 := Scalar.addi c0_i32_1390 v1238
  v1239.toNat
def k0_off6 (d0 : Dev nD) (c0_i32_1356 : BitVec 32) (c0_i32_1399 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1355 : BitVec 32 := 16#32
  let v1219 : BitVec 32 := Scalar.addi v2 c16_i32_1355
  let v1220 : BitVec 32 := Scalar.subi v1219 c0_i32_1356
  let c8_i32_1357 : BitVec 32 := 8#32
  let v1221 : BitVec 32 := Scalar.remsi v1220 c8_i32_1357
  let c256_i32_1398 : BitVec 32 := 256#32
  let v1251 : BitVec 32 := Scalar.muli v1221 c256_i32_1398
  let v1252 : BitVec 32 := Scalar.addi v1251 c0_i32_1399
  let v1253 : Index := Scalar.indexCast v1252
  let c0_1400 : Index := 0#32
  ![v1253.toNat, 0]
def k0_dev36 (d0 : Dev nD) : Nat :=
  let c0_i32_1431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1430 : BitVec 32 := 1#32
  let v1269 : BitVec 32 := Scalar.muli v5 c1_i32_1430
  let v1270 : BitVec 32 := Scalar.addi c0_i32_1431 v1269
  v1270.toNat
def k0_off7 (d0 : Dev nD) (c0_i32_1358 : BitVec 32) (c0_i32_1440 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1222 : BitVec 32 := Scalar.addi v2 c0_i32_1358
  let c8_i32_1359 : BitVec 32 := 8#32
  let v1223 : BitVec 32 := Scalar.remsi v1222 c8_i32_1359
  let c256_i32_1439 : BitVec 32 := 256#32
  let v1282 : BitVec 32 := Scalar.muli v1223 c256_i32_1439
  let v1283 : BitVec 32 := Scalar.addi v1282 c0_i32_1440
  let v1284 : Index := Scalar.indexCast v1283
  let c1024_1441 : Index := 1024#32
  ![v1284.toNat, 1024]
def k0_dev37 (d0 : Dev nD) : Nat :=
  let c0_i32_1472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1471 : BitVec 32 := 1#32
  let v1300 : BitVec 32 := Scalar.muli v7 c1_i32_1471
  let v1301 : BitVec 32 := Scalar.addi c0_i32_1472 v1300
  v1301.toNat
def k0_dev38 (d0 : Dev nD) : Nat :=
  let c0_i32_1513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1512 : BitVec 32 := 1#32
  let v1331 : BitVec 32 := Scalar.muli v5 c1_i32_1512
  let v1332 : BitVec 32 := Scalar.addi c0_i32_1513 v1331
  v1332.toNat
def k0_dev39 (d0 : Dev nD) : Nat :=
  let c0_i32_1559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1558 : BitVec 32 := 1#32
  let v1367 : BitVec 32 := Scalar.muli v7 c1_i32_1558
  let v1368 : BitVec 32 := Scalar.addi c0_i32_1559 v1367
  v1368.toNat
def k0_dev40 (d0 : Dev nD) : Nat :=
  let c0_i32_1600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1599 : BitVec 32 := 1#32
  let v1398 : BitVec 32 := Scalar.muli v5 c1_i32_1599
  let v1399 : BitVec 32 := Scalar.addi c0_i32_1600 v1398
  v1399.toNat
def k0_dev41 (d0 : Dev nD) : Nat :=
  let c0_i32_1641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1640 : BitVec 32 := 1#32
  let v1429 : BitVec 32 := Scalar.muli v7 c1_i32_1640
  let v1430 : BitVec 32 := Scalar.addi c0_i32_1641 v1429
  v1430.toNat
def k0_dev42 (d0 : Dev nD) : Nat :=
  let c0_i32_1682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1681 : BitVec 32 := 1#32
  let v1460 : BitVec 32 := Scalar.muli v5 c1_i32_1681
  let v1461 : BitVec 32 := Scalar.addi c0_i32_1682 v1460
  v1461.toNat
def k0_dev43 (d0 : Dev nD) : Nat :=
  let c0_i32_1728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1727 : BitVec 32 := 1#32
  let v1496 : BitVec 32 := Scalar.muli v7 c1_i32_1727
  let v1497 : BitVec 32 := Scalar.addi c0_i32_1728 v1496
  v1497.toNat
def k0_dev44 (d0 : Dev nD) : Nat :=
  let c0_i32_1769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1768 : BitVec 32 := 1#32
  let v1527 : BitVec 32 := Scalar.muli v5 c1_i32_1768
  let v1528 : BitVec 32 := Scalar.addi c0_i32_1769 v1527
  v1528.toNat
def k0_dev45 (d0 : Dev nD) : Nat :=
  let c0_i32_1810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1809 : BitVec 32 := 1#32
  let v1558 : BitVec 32 := Scalar.muli v7 c1_i32_1809
  let v1559 : BitVec 32 := Scalar.addi c0_i32_1810 v1558
  v1559.toNat
def k0_dev46 (d0 : Dev nD) : Nat :=
  let c0_i32_1851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1850 : BitVec 32 := 1#32
  let v1589 : BitVec 32 := Scalar.muli v5 c1_i32_1850
  let v1590 : BitVec 32 := Scalar.addi c0_i32_1851 v1589
  v1590.toNat
def k0_dev47 (d0 : Dev nD) : Nat :=
  let c0_i32_1897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1896 : BitVec 32 := 1#32
  let v1625 : BitVec 32 := Scalar.muli v7 c1_i32_1896
  let v1626 : BitVec 32 := Scalar.addi c0_i32_1897 v1625
  v1626.toNat
def k0_dev48 (d0 : Dev nD) : Nat :=
  let c0_i32_1938 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1937 : BitVec 32 := 1#32
  let v1656 : BitVec 32 := Scalar.muli v5 c1_i32_1937
  let v1657 : BitVec 32 := Scalar.addi c0_i32_1938 v1656
  v1657.toNat
def k0_dev49 (d0 : Dev nD) : Nat :=
  let c0_i32_1979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1978 : BitVec 32 := 1#32
  let v1687 : BitVec 32 := Scalar.muli v7 c1_i32_1978
  let v1688 : BitVec 32 := Scalar.addi c0_i32_1979 v1687
  v1688.toNat
def k0_dev50 (d0 : Dev nD) : Nat :=
  let c0_i32_2020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2019 : BitVec 32 := 1#32
  let v1718 : BitVec 32 := Scalar.muli v5 c1_i32_2019
  let v1719 : BitVec 32 := Scalar.addi c0_i32_2020 v1718
  v1719.toNat
def k0_dev51 (d0 : Dev nD) : Nat :=
  let c0_i32_2066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2065 : BitVec 32 := 1#32
  let v1754 : BitVec 32 := Scalar.muli v7 c1_i32_2065
  let v1755 : BitVec 32 := Scalar.addi c0_i32_2066 v1754
  v1755.toNat
def k0_dev52 (d0 : Dev nD) : Nat :=
  let c0_i32_2107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2106 : BitVec 32 := 1#32
  let v1785 : BitVec 32 := Scalar.muli v5 c1_i32_2106
  let v1786 : BitVec 32 := Scalar.addi c0_i32_2107 v1785
  v1786.toNat
def k0_dev53 (d0 : Dev nD) : Nat :=
  let c0_i32_2148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2147 : BitVec 32 := 1#32
  let v1816 : BitVec 32 := Scalar.muli v7 c1_i32_2147
  let v1817 : BitVec 32 := Scalar.addi c0_i32_2148 v1816
  v1817.toNat
def k0_dev54 (d0 : Dev nD) : Nat :=
  let c0_i32_2189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2188 : BitVec 32 := 1#32
  let v1847 : BitVec 32 := Scalar.muli v5 c1_i32_2188
  let v1848 : BitVec 32 := Scalar.addi c0_i32_2189 v1847
  v1848.toNat
def k0_dev55 (d0 : Dev nD) : Nat :=
  let c0_i32_2235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2234 : BitVec 32 := 1#32
  let v1883 : BitVec 32 := Scalar.muli v7 c1_i32_2234
  let v1884 : BitVec 32 := Scalar.addi c0_i32_2235 v1883
  v1884.toNat
def k0_dev56 (d0 : Dev nD) : Nat :=
  let c0_i32_2276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2275 : BitVec 32 := 1#32
  let v1914 : BitVec 32 := Scalar.muli v5 c1_i32_2275
  let v1915 : BitVec 32 := Scalar.addi c0_i32_2276 v1914
  v1915.toNat
def k0_dev57 (d0 : Dev nD) : Nat :=
  let c0_i32_2317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2316 : BitVec 32 := 1#32
  let v1945 : BitVec 32 := Scalar.muli v7 c1_i32_2316
  let v1946 : BitVec 32 := Scalar.addi c0_i32_2317 v1945
  v1946.toNat
def k0_dev58 (d0 : Dev nD) : Nat :=
  let c0_i32_2358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2357 : BitVec 32 := 1#32
  let v1976 : BitVec 32 := Scalar.muli v5 c1_i32_2357
  let v1977 : BitVec 32 := Scalar.addi c0_i32_2358 v1976
  v1977.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.K.Eq.lean ====
/- The printed body is the body written step by step. -/
module

public import proofs.«01_k».proof.Proof.K.Prog

@[expose] public section

noncomputable section

namespace Cert.Kernel.Ring

open Idealize.ShloMosaic Idealize.SL.Sem Cert.Kernel Cert.Kernel.Gen

variable {F : FTy → Type} [FloatOps F]

theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    cc0_scratch2 cc0_scratch3 cc0_scratch4 cc0_scratch5 = bodyP := by
  chain_rfl

end Cert.Kernel.Ring

end
-- ==== Proof.KI.Prog.lean ====
/- The kernel's body, written step by step over a direction (`false`: the clockwise ring, `true`: the
   counter-clockwise one), a half `q` of a slot's rows, and a step number; and that it is the printed body. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Ring

open Idealize.ShloMosaic Idealize.SL.Sem Cert.KernelIdeal Cert.KernelIdeal.Gen

variable {F : FTy → Type} [FloatOps F]

/-! ## Buffers, slots and semaphores -/

/-- The staged block of `x`. -/
abbrev xM : Memref sig .tc .vmem S2048x256 .f32 := Memref.whole cc0_stg0_0
/-- The staged block of the weights. -/
abbrev wM : Memref sig .tc .vmem S256x2048 .f32 := Memref.whole cc0_stg1_0
/-- The staged result. -/
abbrev oM : Memref sig .tc .vmem S2048x2048 .f32 := Memref.whole cc0_stg2_0
/-- The ring's buffer of a direction. -/
abbrev bM : Bool → Memref sig .tc .vmem S8x256x1024 .bf16
  | false => Memref.whole cc0_scratch0
  | true => Memref.whole cc0_scratch1
theorem bM_whole : ∀ dir, (bM dir).IsWhole
  | false => Memref.isWhole_whole _
  | true => Memref.isWhole_whole _
/-- The send semaphores of a direction. -/
abbrev sS : Bool → DmaSems sig S8x2
  | false => cc0_scratch2
  | true => cc0_scratch4
/-- The receive semaphores of a direction. -/
abbrev rS : Bool → DmaSems sig S8x2
  | false => cc0_scratch3
  | true => cc0_scratch5

/-- The slot that step `s` copies from (step `s + 1` is the slot it copies to). -/
def sl (s : ℕ) : Fin 8 := ⟨s % 8, Nat.mod_lt _ (by decide)⟩

theorem slot_inb (k : Fin 8) (q : Fin 2) :
    ∀ a, (![k.val, 128 * q.val, 0] : Fin 3 → ℕ) a + S1x128x1024.size a ≤ S8x256x1024.size a := by
  revert k q; decide
/-- The rows of half `q` of slot `k`. -/
abbrev slotR (k : Fin 8) (q : Fin 2) : Rect S8x256x1024 :=
  Rect.unit (s := S8x256x1024) ![k.val, 128 * q.val, 0] S1x128x1024.size (slot_inb k q)
theorem slot_words (k : Fin 8) (q : Fin 2) : (slotR k q).WholeWords (EltTy.packing .bf16) := by
  revert k q; decide
theorem slot_packed (k : Fin 8) (q : Fin 2) : (slotR k q).PackedRows (EltTy.packing .bf16) := by
  revert k q; decide
theorem sem_inb (k : Fin 8) (q : Fin 2) :
    ∀ a, (![k.val, q.val] : Fin 2 → ℕ) a + S1x1.size a ≤ S8x2.size a := by
  revert k q; decide
/-- Half `q` of slot `k` as the copies name it. -/
abbrev slotM (dir : Bool) (k : Fin 8) (q : Fin 2) : Memref sig .tc .vmem S128x1024 .bf16 :=
  ((bM dir).slice (slotR k q) (fun _ => rfl)).squeeze S128x1024 squeezes_S1x128x1024_S128x1024
/-- The semaphore of slot `k`, half `q`. -/
abbrev semAt (S : DmaSems sig S8x2) (k : Fin 8) (q : Fin 2) : DmaSems sig S_ :=
  (S.slice (Rect.unit (s := S8x2) ![k.val, q.val] S1x1.size (sem_inb k q))).squeeze S_ squeezes_S1x1_S_

/-- The semaphores of a direction: those counting what has left (`recv` false), those counting
    what has arrived. -/
def semOf (dir recv : Bool) (k : Fin 8) (q : Fin 2) : DmaSem sig :=
  match recv with
  | false => (semAt (sS dir) k q).sem
  | true => (semAt (rS dir) k q).sem

/-- The device a direction's copies go to. -/
abbrev peer (d : Dev nD) : Bool → Dev nD
  | false => ⟨k0_dev3 d, k0_dev3_lt d⟩
  | true => ⟨k0_dev4 d, k0_dev4_lt d⟩

theorem slot_exact (dir : Bool) (k : Fin 8) (q : Fin 2) : (slotM dir k q).view.WordExact :=
  ((bM_whole dir).wordExact_slice rfl _ (slot_words k q)).reshape _ _

/-! ## The values -/

/-- The product of a chunk of `x` with half of the weights. -/
def prodV (x : Vec F S256x256 .f32) (w : Vec F S256x1024 .f32) : FVec F S256x1024 .f32 :=
  matmul dot_S256x256_S256x1024_S256x1024_1_0_0_1_n_n none
    (shapeCast S256x256 x shapeCasts_S256x256_S256x256 : FVec F S256x256 .f32)
    (shapeCast S256x1024 w shapeCasts_S256x1024_S256x1024 : FVec F S256x1024 .f32)
    (constant S256x1024 .f32 0x00000000#32)

theorem half_slices (q : Fin 2) : S256x1024.Slices ![128 * q.val, 0] S128x1024 := by
  revert q; decide
/-- Half `q` of a product's rows. -/
def halfV (q : Fin 2) (l : FVec F S256x1024 .f32) : FVec F S128x1024 .f32 :=
  extractStridedSlice S128x1024 ![128 * q.val, 0] l (half_slices q)
/-- A slot's contents at the accumulator's width. -/
def wideV (v : Vec F S1x128x1024 .bf16) : FVec F S128x1024 .f32 :=
  extf .f32 (shapeCast S128x1024 v shapeCasts_S1x128x1024_S128x1024 : FVec F S128x1024 .bf16) bitsLt_bf16_f32
/-- The accumulator: what arrived plus half of the local product. -/
def accV (q : Fin 2) (l : FVec F S256x1024 .f32) (v : Vec F S1x128x1024 .bf16) : FVec F S128x1024 .f32 :=
  addf (wideV v) (halfV q l)
/-- Rounded to the width the ring carries. -/
def narrowV (a : FVec F S128x1024 .f32) : FVec F S128x1024 .bf16 := truncf .bf16 a bitsLt_bf16_f32
/-- In a slot's shape. -/
def slotV (a : FVec F S128x1024 .bf16) : FVec F S1x128x1024 .bf16 :=
  shapeCast S1x128x1024 a shapeCasts_S128x1024_S1x128x1024
/-- The first slot's contents: the local product rounded. -/
def initV (l : FVec F S256x1024 .f32) : FVec F S1x256x1024 .bf16 :=
  shapeCast S1x256x1024 (truncf .bf16 l bitsLt_bf16_f32 : FVec F S256x1024 .bf16) shapeCasts_S256x1024_S1x256x1024
/-- The activation. -/
def actV (a : FVec F S128x1024 .f32) : FVec F S128x1024 .f32 :=
  mulf (mulf (broadcast S128x1024 (Scalar.ofBits .f32 0x3F000000#32 : F .f32)) a)
    (addf (broadcast S128x1024 (Scalar.ofBits .f32 0x3F800000#32 : F .f32))
      (tanh (mulf (broadcast S128x1024 (Scalar.ofBits .f32 0x3F4C422A#32 : F .f32))
        (addf a (mulf (mulf (mulf (broadcast S128x1024 (Scalar.ofBits .f32 0x3D372713#32 : F .f32)) a) a) a)))))

/-! ## The steps -/

/-- What the core does. -/
abbrev Eff (F : FTy → Type) [FloatOps F] := TpuEff nD τ sig (Elt F) Λ₀ .tc

/-- Where the weights' half of a direction starts. -/
abbrev wOff : Bool → ℕ
  | false => 0
  | true => 1024
theorem wOff_inb : ∀ dir, ∀ a, (![0, wOff dir] : Fin 2 → ℕ) a + S256x1024.size a ≤ S256x2048.size a := by
  decide
/-- The chunk of `x` that step `s` of a direction multiplies. -/
abbrev xOff (d : Dev nD) (s : Fin 7) : Bool → Fin 2 → ℕ
  | false => k0_off2 d (BitVec.ofNat 32 s.val)
  | true => k0_off3 d (BitVec.ofNat 32 s.val)
theorem xOff_inb (d : Dev nD) (s : Fin 7) : ∀ dir, ∀ a, xOff d s dir a + S256x256.size a ≤ S2048x256.size a
  | false => k0_off2_inb d s
  | true => k0_off3_inb d s
/-- Where the device's own block of the result goes. -/
abbrev oOff (d : Dev nD) (q : Fin 2) : Bool → Fin 2 → ℕ
  | false => k0_off4 d (BitVec.ofNat 32 (128 * q.val))
  | true => k0_off5 d (BitVec.ofNat 32 (128 * q.val))
theorem oOff_inb (d : Dev nD) (q : Fin 2) : ∀ dir, ∀ a, oOff d q dir a + S128x1024.size a ≤ S2048x2048.size a
  | false => k0_off4_inb d q
  | true => k0_off5_inb d q
/-- Where the `t`-th gathered block goes. -/
abbrev gOff (d : Dev nD) (t : Fin 7) (q : Fin 2) : Bool → Fin 2 → ℕ
  | false => k0_off6 d (BitVec.ofNat 32 t.val) (BitVec.ofNat 32 (128 * q.val))
  | true => k0_off7 d (BitVec.ofNat 32 t.val) (BitVec.ofNat 32 (128 * q.val))
theorem gOff_inb (d : Dev nD) (t : Fin 7) (q : Fin 2) :
    ∀ dir, ∀ a, gOff d t q dir a + S128x1024.size a ≤ S2048x2048.size a
  | false => k0_off6_inb d t q
  | true => k0_off7_inb d t q

abbrev xLoad (off : Fin 2 → ℕ) (h : ∀ a, off a + S256x256.size a ≤ S2048x256.size a) : Prog (Eff F) (Vec F S256x256 .f32) :=
  Prog.lift (.load xM (Rect.unit (s := S2048x256) off S256x256.size h).toLoadRect (View.loadsAt_vmem h_S256x256))
abbrev wLoad (dir : Bool) : Prog (Eff F) (Vec F S256x1024 .f32) :=
  Prog.lift (.load wM (Rect.unit (s := S256x2048) ![0, wOff dir] S256x1024.size (wOff_inb dir)).toLoadRect
    (View.loadsAt_vmem h_S256x1024))
abbrev sLoad (dir : Bool) (k : Fin 8) (q : Fin 2) : Prog (Eff F) (Vec F S1x128x1024 .bf16) :=
  Prog.lift (.load (bM dir) (slotR k q).toLoadRect (View.loadsAt_vmem h_S1x128x1024))
abbrev sStore (dir : Bool) (k : Fin 8) (q : Fin 2) (v : FVec F S1x128x1024 .bf16) : Prog (Eff F) PUnit :=
  Prog.lift (.store (bM dir) (slotR k q) v Finset.univ
    (View.stores_vmem h_S1x128x1024 ((bM_whole dir).storeExact_slice rfl _ (slot_packed k q)) (fun _ => rfl)) (.inl rfl))
abbrev oLoad (off : Fin 2 → ℕ) (h : ∀ a, off a + S128x1024.size a ≤ S2048x2048.size a) : Prog (Eff F) (Vec F S128x1024 .f32) :=
  Prog.lift (.load oM (Rect.unit (s := S2048x2048) off S128x1024.size h).toLoadRect (View.loadsAt_vmem h_S128x1024))
abbrev oStore (off : Fin 2 → ℕ) (h : ∀ a, off a + S128x1024.size a ≤ S2048x2048.size a) (v : FVec F S128x1024 .f32) :
    Prog (Eff F) PUnit :=
  Prog.lift (.store oM (Rect.unit (s := S2048x2048) off S128x1024.size h) v Finset.univ
    (View.stores_vmem_bits_univ h_S128x1024 rfl) (.inl rfl))

/-- Start step `s`. -/
abbrev copyP (d : Dev nD) (dir : Bool) (q : Fin 2) (s : ℕ) : Prog (Eff F) PUnit :=
  Prog.lift (.enqueueDma (slotM dir (sl s) q)
    (.remote (Dev.tc (peer d dir)) (slotM dir (sl (s + 1)) q) (.dma (semOf dir false (sl s) q)))
    (.dma (semOf dir true (sl (s + 1)) q)) (slot_exact dir (sl s) q) (slot_exact dir (sl (s + 1)) q)
    ⟨⟨rfl, Or.inl rfl⟩, trivial⟩)
/-- Wait until step `s` has left. -/
abbrev waitSend (dir : Bool) (q : Fin 2) (s : ℕ) : Prog (Eff F) PUnit :=
  Prog.lift (.waitDma2 (semOf dir false (sl s) q) (slotM dir (sl (s + 1)) q) (slotM dir (sl s) q)
    (slot_exact dir (sl (s + 1)) q) (slot_exact dir (sl s) q))
/-- Wait until step `s` has arrived. -/
abbrev waitRecv (dir : Bool) (q : Fin 2) (s : ℕ) : Prog (Eff F) PUnit :=
  Prog.lift (.waitDma2 (semOf dir true (sl (s + 1)) q) (slotM dir (sl s) q) (slotM dir (sl (s + 1)) q)
    (slot_exact dir (sl s) q) (slot_exact dir (sl (s + 1)) q))

/-- The product of the step's chunk with the direction's half of the weights. -/
def localP (d : Dev nD) (s : Fin 7) (dir : Bool) : Prog (Eff F) (FVec F S256x1024 .f32) := do
  let x ← xLoad (xOff d s dir) (xOff_inb d s dir)
  let w ← wLoad dir
  pure (prodV x w)

/-- The barrier's semaphore. -/
abbrev barS : Sems sig S_ := SemArray.scalar (sig.barrier 0 rfl)

/-- Both neighbours told, and both heard from. -/
def barP (d : Dev nD) : Prog (Eff F) PUnit := do
  semSignalWord (⟨k0_dev1 d, k0_dev1_lt d⟩ : Dev nD) barS.sem 1#32
  semSignalWord (⟨k0_dev2 d, k0_dev2_lt d⟩ : Dev nD) barS.sem 1#32
  semWaitWord barS.sem 2#32

/-- The first slot filled. -/
def initP (d : Dev nD) (dir : Bool) : Prog (Eff F) PUnit := do
  let x ← xLoad (k0_off1 d) (k0_off1_inb d)
  let w ← wLoad dir
  let _ : Vec F S1x256x1024 .bf16 ← Prog.lift (.load (bM dir) (Rect.unit (s := S8x256x1024) ![0, 0, 0] S1x256x1024.size
    inb_S8x256x1024_S1x256x1024_0_0_0).toLoadRect (View.loadsAt_vmem h_S1x256x1024))
  Prog.lift (.store (bM dir) (Rect.unit (s := S8x256x1024) ![0, 0, 0] S1x256x1024.size
      inb_S8x256x1024_S1x256x1024_0_0_0) (initV (prodV x w)) Finset.univ
    (View.stores_vmem h_S1x256x1024 ((bM_whole dir).storeExact_slice rfl _
      packedbf16_S8x256x1024_S1x256x1024_0_0_0) (fun _ => rfl)) (.inl rfl))

/-- A reduce-scatter step of one half: what arrived, accumulated and sent on. -/
def redP (d : Dev nD) (dir : Bool) (q : Fin 2) (s : ℕ) (l : FVec F S256x1024 .f32) : Prog (Eff F) PUnit := do
  waitSend dir q s
  waitRecv dir q s
  let v ← sLoad dir (sl (s + 1)) q
  let _ ← sLoad (F := F) dir (sl (s + 1)) q
  sStore dir (sl (s + 1)) q (slotV (narrowV (accV q l v)))
  copyP d dir q (s + 1)

/-- The last reduce-scatter step of one half: the device's own block, activated, stored and sent on. -/
def actP (d : Dev nD) (dir : Bool) (q : Fin 2) (l : FVec F S256x1024 .f32) : Prog (Eff F) PUnit := do
  waitSend dir q 6
  waitRecv dir q 6
  let v ← sLoad dir (sl 7) q
  let _ ← oLoad (F := F) (oOff d q dir) (oOff_inb d q dir)
  oStore (oOff d q dir) (oOff_inb d q dir) (actV (accV q l v))
  let _ ← sLoad (F := F) dir (sl 7) q
  sStore dir (sl 7) q (slotV (narrowV (actV (accV q l v))))
  copyP d dir q 7

/-- A gathered block stored. -/
def putP (d : Dev nD) (dir : Bool) (q : Fin 2) (t : Fin 7) : Prog (Eff F) PUnit := do
  let v ← sLoad dir (sl t.val) q
  let _ ← oLoad (F := F) (gOff d t q dir) (gOff_inb d t q dir)
  oStore (gOff d t q dir) (gOff_inb d t q dir) (wideV v)

/-- An all-gather step of one half: what arrived, sent on and stored. -/
def gatP (d : Dev nD) (dir : Bool) (q : Fin 2) (t : Fin 7) : Prog (Eff F) PUnit := do
  waitSend dir q (7 + t.val)
  waitRecv dir q (7 + t.val)
  copyP d dir q (8 + t.val)
  putP d dir q t

/-- The last all-gather step of one half. -/
def endP (d : Dev nD) (dir : Bool) (q : Fin 2) : Prog (Eff F) PUnit := do
  waitSend dir q 13
  waitRecv dir q 13
  putP d dir q 6

/-- A reduce-scatter step. -/
def redAll (d : Dev nD) (s : Fin 7) : Prog (Eff F) PUnit := do
  let l ← localP d s false
  let r ← localP d s true
  redP d false 0 s.val l
  redP d true 0 s.val r
  redP d false 1 s.val l
  redP d true 1 s.val r

/-- The last reduce-scatter step. -/
def actAll (d : Dev nD) : Prog (Eff F) PUnit := do
  let l ← localP d 6 false
  let r ← localP d 6 true
  actP d false 0 l
  actP d true 0 r
  actP d false 1 l
  actP d true 1 r

/-- An all-gather step. -/
def gatAll (d : Dev nD) (t : Fin 7) : Prog (Eff F) PUnit := do
  gatP d false 0 t
  gatP d true 0 t
  gatP d false 1 t
  gatP d true 1 t

/-- The barrier, the first slots, and the first copies. -/
def startAll (d : Dev nD) : Prog (Eff F) PUnit := do
  barP d
  initP d false
  initP d true
  copyP d false 0 0
  copyP d true 0 0
  copyP d false 1 0
  copyP d true 1 0

/-- The body on device `d`. -/
def bodyD (d : Dev nD) : Prog (Eff F) PUnit := do
  startAll d
  redAll d 0
  redAll d 1
  redAll d 2
  redAll d 3
  redAll d 4
  redAll d 5
  actAll d
  gatAll d 0
  gatAll d 1
  gatAll d 2
  gatAll d 3
  gatAll d 4
  gatAll d 5
  endP d false 0
  endP d true 0
  endP d false 1
  endP d true 1

/-- The body. -/
def bodyP : Prog (Eff F) PUnit := do
  let d ← Prog.lift .deviceId
  bodyD d

end Cert.KernelIdeal.Ring

end
-- ==== Proof.KI.Ring.lean ====
/- The ring's devices, the values that travel, and the assertions about slots. -/
module

public import proofs.«01_k».proof.Proof.KI.Prog
public import Idealize.ShloMosaic.Lib.Pipeline.Launch
public import Idealize.ShloMosaic.Lib.Pipeline.Kit
public import Idealize.ShloMosaic.Lib.Tactic

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Devices -/

/-- The device a direction's copies come from. -/
abbrev frm (dir : Bool) (d : Dev nD) : Dev nD := peer d (!dir)

theorem frm_peer (dir : Bool) (d : Dev nD) : frm dir (peer d dir) = d := by revert dir d; decide
theorem peer_frm (dir : Bool) (d : Dev nD) : peer (frm dir d) dir = d := by revert dir d; decide
theorem frm7 (dir : Bool) (d : Dev nD) : (frm dir)^[7] d = peer d dir := by revert dir d; decide
theorem peer_ne (dir : Bool) (d : Dev nD) : peer d dir ≠ d := by revert dir d; decide
theorem peer_inj (dir : Bool) {a b : Dev nD} (h : peer a dir = peer b dir) : a = b := by
  rw [← frm_peer dir a, h, frm_peer]
theorem dev1_eq (d : Dev nD) : (⟨k0_dev1 d, k0_dev1_lt d⟩ : Dev nD) = frm false d := by revert d; decide
theorem dev2_eq (d : Dev nD) : (⟨k0_dev2 d, k0_dev2_lt d⟩ : Dev nD) = frm true d := by revert d; decide

/-- A direction's rotation of the devices. -/
def rot (dir : Bool) : Dev nD ≃ Dev nD := ⟨fun d => peer d dir, frm dir, frm_peer dir, peer_frm dir⟩

/-! ## Values -/

section Values

variable (X : Dev nD → (cc0_stg0_0 : Ref sig .tc).ty.Contents (Elt F))
  (W : Dev nD → (cc0_stg1_0 : Ref sig .tc).ty.Contents (Elt F))

/-- A chunk of device `d`'s `x`. -/
def xV (d : Dev nD) (off : Fin 2 → ℕ) (h : ∀ a, off a + S256x256.size a ≤ S2048x256.size a) : Vec F S256x256 .f32 :=
  xM.view.readAt (Elt F) (Rect.unit (s := S2048x256) off S256x256.size h).toLoadRect (X d)
/-- A direction's half of device `d`'s weights. -/
def wV (d : Dev nD) (dir : Bool) : Vec F S256x1024 .f32 :=
  wM.view.readAt (Elt F) (Rect.unit (s := S256x2048) ![0, wOff dir] S256x1024.size (wOff_inb dir)).toLoadRect (W d)
/-- Device `d`'s product for its own chunk. -/
def ownV (d : Dev nD) (dir : Bool) : FVec F S256x1024 .f32 := prodV (xV X d (k0_off1 d) (k0_off1_inb d)) (wV W d dir)
/-- Device `d`'s product for step `s`'s chunk. -/
def locV (d : Dev nD) (s : Fin 7) (dir : Bool) : FVec F S256x1024 .f32 :=
  prodV (xV X d (xOff d s dir) (xOff_inb d s dir)) (wV W d dir)

/-- A step number of the reduce-scatter, as one. -/
def st7 (s : ℕ) : Fin 7 := ⟨s % 7, Nat.mod_lt _ (by decide)⟩
theorem st7_val (s : Fin 7) : st7 s.val = s := by revert s; decide

/-- What device `d` sends at step `s`: first its own product, then what arrived plus the step's product, at step 7 that
    sum activated, and from then on what arrived. -/
def msg (dir : Bool) (q : Fin 2) : ℕ → Dev nD → Vec F S1x128x1024 .bf16
  | 0, d => slotV (narrowV (halfV q (ownV X W d dir)))
  | s + 1, d =>
    if s < 6 then slotV (narrowV (accV q (locV X W d (st7 s) dir) (msg dir q s (frm dir d))))
    else if s = 6 then slotV (narrowV (actV (accV q (locV X W d 6 dir) (msg dir q 6 (frm dir d)))))
    else msg dir q s (frm dir d)

/-- The block device `d` finishes, at the width of the result. -/
def finV (dir : Bool) (q : Fin 2) (d : Dev nD) : FVec F S128x1024 .f32 :=
  actV (accV q (locV X W d 6 dir) (msg X W dir q 6 (frm dir d)))

theorem msg_red (dir : Bool) (q : Fin 2) (s : ℕ) (hs : s < 6) (d : Dev nD) :
    msg X W dir q (s + 1) d = slotV (narrowV (accV q (locV X W d (st7 s) dir) (msg X W dir q s (frm dir d)))) := by
  rw [msg, if_pos hs]
theorem msg_act (dir : Bool) (q : Fin 2) (d : Dev nD) : msg X W dir q 7 d = slotV (narrowV (finV X W dir q d)) := by
  rw [msg, if_neg (by decide), if_pos rfl]; rfl
theorem msg_gat (dir : Bool) (q : Fin 2) (s : ℕ) (hs : 7 ≤ s) (d : Dev nD) :
    msg X W dir q (s + 1) d = msg X W dir q s (frm dir d) := by
  rw [msg, if_neg (by omega), if_neg (by omega)]

theorem msg_far (dir : Bool) (q : Fin 2) : ∀ (t : ℕ) (d : Dev nD), msg X W dir q (7 + t) d = msg X W dir q 7 ((frm dir)^[t] d)
  | 0, _ => rfl
  | t + 1, d => by
    rw [show 7 + (t + 1) = (7 + t) + 1 from rfl, msg_gat X W dir q _ (by omega), msg_far dir q t, Function.iterate_succ_apply]

end Values

end Cert.KernelIdeal.Ring

end
-- ==== Proof.KI.Slots.lean ====
/- Slots of the ring's buffers: what is held of one, and the loads and stores through it. -/
module

public import proofs.«01_k».proof.Proof.KI.Ring
public import Idealize.ShloMosaic.Lib.ViewIndex

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ring's ghost state: rounds whose duties are named by a `Bool`. -/
abbrev UB : Type := URounds (GSem nD τ sig) Bool
/-- The ghost state: the pipeline's and the ring's. -/
abbrev UU : Type := UR sig nD τ × UB

local notation "𝕄" => MT nD τ sig ℕ (Elt F) ℕ UU ℕ

/-- The pipeline's part of the ghost state. -/
abbrev EP : Emb (UR sig nD τ) (MT nD τ sig ℕ (Elt F) ℕ UU ℕ) := embL
/-- The ring's part. -/
abbrev ER : Emb UB (MT nD τ sig ℕ (Elt F) ℕ UU ℕ) := embR

abbrev 𝒱₀ : Variants := Variants.none

/-- What running `p` on device `d`'s core needs for `Kt` to hold after it. -/
abbrev WP (d : Dev nD) {α : Type} (p : Prog (Eff F) α) (Kt : α → sProp 𝕄) : sProp 𝕄 :=
  wp frame (wpE (defs₀ (F := F)) 𝒱₀ (d : Thread nD τ) none) Set.univ p Kt

/-- A share of half `q` of slot `k` on device `e`, reading `v`. -/
def slotP (e : Dev nD) (dir : Bool) (q : Fin 2) (k : Fin 8) (sh : PosShare TreeShare) (v : Vec F S1x128x1024 .bf16) : sProp 𝕄 :=
  iprop(∃ f : Buf (Elt F) ((slotM dir k q).view.loc (e : Thread nD τ)),
    ⌜(bM dir).view.readAt (Elt F) (slotR k q).toLoadRect f = v⌝
      ∗ ((slotM dir k q).view.loc (e : Thread nD τ) ↦[(slotM dir k q).view.set]{sh} f))

theorem slotP_eq (e : Dev nD) (dir : Bool) (q : Fin 2) (k : Fin 8) (sh : PosShare TreeShare) (v : Vec F S1x128x1024 .bf16) :
    (slotP e dir q k sh v : sProp 𝕄) = iprop(∃ f : Buf (Elt F) ((slotM dir k q).view.loc (e : Thread nD τ)),
      ⌜(bM dir).view.readAt (Elt F) (slotR k q).toLoadRect f = v⌝
        ∗ ((slotM dir k q).view.loc (e : Thread nD τ) ↦[(slotM dir k q).view.set]{sh} f)) := rfl

/-- Half `q` of slot `k` on device `e`, whatever it holds. -/
def anyP (e : Dev nD) (dir : Bool) (q : Fin 2) (k : Fin 8) : sProp 𝕄 :=
  iprop(∃ v : Vec F S1x128x1024 .bf16, slotP e dir q k fullShare v)

instance slotP_storable (e : Dev nD) (dir : Bool) (q : Fin 2) (k : Fin 8) (sh) (v : Vec F S1x128x1024 .bf16) :
    BI.Storable (upEmb : UEmb _ 𝕄) (slotP e dir q k sh v) := by unfold slotP; infer_instance
instance anyP_storable (e : Dev nD) (dir : Bool) (q : Fin 2) (k : Fin 8) :
    BI.Storable (upEmb : UEmb _ 𝕄) (anyP (F := F) e dir q k) := by unfold anyP; infer_instance

theorem slot_set (dir : Bool) (k : Fin 8) (q : Fin 2) :
    (slotM dir k q).view.set = ((bM dir).access (slotR k q)).set := View.set_reshape _ _

theorem slot_setOn (dir : Bool) (k : Fin 8) (q : Fin 2) :
    (bM dir).view.setOn (slotR k q).toLoadRect.set ⊆ (slotM dir k q).view.set := by
  rw [slot_set]; exact subset_of_eq (View.set_slice _ _).symm

/-- Two contents that a slot reads alike agree on it. -/
theorem slot_agree (dir : Bool) (k : Fin 8) (q : Fin 2) {f g : (bM dir).view.ty.Contents (Elt F)}
    (h : (bM dir).view.readAt (Elt F) (slotR k q).toLoadRect f = (bM dir).view.readAt (Elt F) (slotR k q).toLoadRect g) :
    ∀ i ∈ (slotM dir k q).view.set, f i = g i := by
  rw [slot_set]
  intro i hi
  obtain ⟨x, -, rfl⟩ := Finset.mem_map.mp hi
  exact View.eq_of_read_eq (v := (bM dir).access (slotR k q)) (congrFun h x)

/-- What was copied from slot to slot reads as the source did. -/
theorem landed_read (dir : Bool) (k k' : Fin 8) (q : Fin 2) (fs fd : (bM dir).view.ty.Contents (Elt F)) :
    (bM dir).view.readAt (Elt F) (slotR k' q).toLoadRect
        ((slotM dir k' q).view.write (Elt F) fd ((slotM dir k q).view.read (Elt F) fs) Finset.univ)
      = (bM dir).view.readAt (Elt F) (slotR k q).toLoadRect fs := by
  funext x
  obtain ⟨y, rfl⟩ := (Shape.reshapeEquiv (s := S1x128x1024) (s' := S128x1024) (by decide)).surjective x
  exact View.read_write_reshape ((bM dir).access (slotR k' q)) _ fd _ y

/-- What was stored in a slot reads back. -/
theorem stored_read (dir : Bool) (k : Fin 8) (q : Fin 2) (f : (bM dir).view.ty.Contents (Elt F)) (w : Vec F S1x128x1024 .bf16) :
    (bM dir).view.readAt (Elt F) (slotR k q).toLoadRect (((bM dir).access (slotR k q)).write (Elt F) f w Finset.univ) = w :=
  View.read_write_univ (v := (bM dir).access (slotR k q)) f w

/-- A slot is held in two halves. -/
theorem slotP_halves (e : Dev nD) (dir : Bool) (q : Fin 2) (k : Fin 8) (v : Vec F S1x128x1024 .bf16) :
    (slotP e dir q k fullShare v : sProp 𝕄) ⊢ iprop(slotP e dir q k fullShare.left v ∗ slotP e dir q k fullShare.right v) := by
  unfold slotP
  iintro ⟨%f, %hf, H⟩
  ihave H' := (pointsTo_share (q₁ := fullShare.left) (q₂ := fullShare.right) (PosShare.mem_left_op_right _)).1 $$ H
  icases H' with ⟨H1, H2⟩
  isplitl [H1]
  · iexists f; isplitr; · (ipureintro; exact hf)
    iexact H1
  · iexists f; isplitr; · (ipureintro; exact hf)
    iexact H2

theorem slotP_whole (e : Dev nD) (dir : Bool) (q : Fin 2) (k : Fin 8) (v : Vec F S1x128x1024 .bf16) :
    iprop(slotP e dir q k fullShare.left v ∗ slotP e dir q k fullShare.right v) ⊢ (slotP e dir q k fullShare v : sProp 𝕄) := by
  unfold slotP
  iintro ⟨⟨%f, %hf, H1⟩, ⟨%g, %hg, H2⟩⟩
  iexists f; isplitr; · (ipureintro; exact hf)
  iapply (pointsTo_share (q₁ := fullShare.left) (q₂ := fullShare.right) (PosShare.mem_left_op_right _)).2
  isplitl [H1]; · iexact H1
  iapply (Entails.of_eq (pointsTo_congr (slot_agree dir k q (hg.trans hf.symm))))
  iexact H2

/-- A slot loaded. -/
theorem wp_sLoad (d : Dev nD) (dir : Bool) (q : Fin 2) (k : Fin 8) (sh : PosShare TreeShare) (v : Vec F S1x128x1024 .bf16)
    (Kt : Vec F S1x128x1024 .bf16 → sProp 𝕄) :
    iprop(slotP d dir q k sh v ∗ (slotP d dir q k sh v -∗ Kt v)) ⊢ WP d (sLoad dir k q) Kt := by
  unfold slotP sLoad Prog.lift
  iintro ⟨⟨%f, %hf, H⟩, Hk⟩
  iapply (wp_load 𝒱₀ (d : Thread nD τ) none Set.univ (m := bM dir) (slot_setOn dir k q)) $$ H
  iintro H
  rw [hf, wp_ret]; imodintro
  iapply Hk
  iexists f; isplitr; · (ipureintro; exact hf)
  iexact H

/-- A slot stored. -/
theorem wp_sStore (d : Dev nD) (dir : Bool) (q : Fin 2) (k : Fin 8) (v w : Vec F S1x128x1024 .bf16)
    (Kt : PUnit → sProp 𝕄) :
    iprop(slotP d dir q k fullShare v ∗ (slotP d dir q k fullShare w -∗ Kt ⟨⟩)) ⊢ WP d (sStore dir k q w) Kt := by
  unfold slotP sStore Prog.lift
  iintro ⟨⟨%f, %hf, H⟩, Hk⟩
  iapply (wp_store 𝒱₀ (d : Thread nD τ) none Set.univ (m := bM dir) (r := slotR k q) (Mk := Finset.univ)
    (subset_of_eq (slot_set dir k q).symm)) $$ H
  iintro H
  rw [wp_ret]; imodintro
  iapply Hk
  iexists _; isplitr; · (ipureintro; exact stored_read dir k q f w)
  iexact H

end Cert.KernelIdeal.Ring

end
-- ==== Proof.KI.Sched.lean ====
/- The ring's cells, what each round of one hands over, what is owed, and the levels. -/
module

public import proofs.«01_k».proof.Proof.KI.Slots

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Cells -/

theorem semOf_val (dir recv : Bool) (k : Fin 8) (q : Fin 2) :
    (semOf dir recv k q).val = 3 + (32 * dir.toNat + 16 * recv.toNat + 2 * k.val + q.val) := by
  revert dir recv k q; decide

/-- The direction of a semaphore. -/
def dirOf (i : DmaSem sig) : Bool := 32 ≤ i.val - 3
/-- Whether a semaphore counts what arrives. -/
def rcvOf (i : DmaSem sig) : Bool := 16 ≤ (i.val - 3) % 32
/-- The slot of a semaphore. -/
def slotOf (i : DmaSem sig) : ℕ := (i.val - 3) % 16 / 2
/-- The half of a semaphore. -/
def hlfOf (i : DmaSem sig) : Fin 2 := ⟨(i.val - 3) % 2, Nat.mod_lt _ (by decide)⟩
/-- The step that round `r` of a semaphore counts. -/
def stepOf (i : DmaSem sig) (r : ℕ) : ℕ := 8 * r + (if rcvOf i then slotOf i + 7 else slotOf i) % 8

theorem dirOf_semOf (dir recv : Bool) (k : Fin 8) (q : Fin 2) : dirOf (semOf dir recv k q) = dir := by
  revert dir recv k q; decide
theorem rcvOf_semOf (dir recv : Bool) (k : Fin 8) (q : Fin 2) : rcvOf (semOf dir recv k q) = recv := by
  revert dir recv k q; decide
theorem slotOf_semOf (dir recv : Bool) (k : Fin 8) (q : Fin 2) : slotOf (semOf dir recv k q) = k.val := by
  revert dir recv k q; decide
theorem hlfOf_semOf (dir recv : Bool) (k : Fin 8) (q : Fin 2) : hlfOf (semOf dir recv k q) = q := by
  revert dir recv k q; decide
theorem three_le_semOf (dir recv : Bool) (k : Fin 8) (q : Fin 2) : 3 ≤ (semOf dir recv k q).val := by
  rw [semOf_val]; omega
theorem semOf_inj {dir recv dir' recv' : Bool} {k k' : Fin 8} {q q' : Fin 2}
    (h : semOf dir recv k q = semOf dir' recv' k' q') : dir = dir' ∧ recv = recv' ∧ k = k' ∧ q = q' := by
  refine ⟨?_, ?_, Fin.ext ?_, ?_⟩
  · rw [← dirOf_semOf dir recv k q, h, dirOf_semOf]
  · rw [← rcvOf_semOf dir recv k q, h, rcvOf_semOf]
  · rw [← slotOf_semOf dir recv k q, h, slotOf_semOf]
  · rw [← hlfOf_semOf dir recv k q, h, hlfOf_semOf]

/-- The cell counting what step `s` has sent from device `d`. -/
abbrev scell (d : Dev nD) (dir : Bool) (q : Fin 2) (s : ℕ) : GSem nD τ sig :=
  ((d : Thread nD τ), .dma (semOf dir false (sl s) q))
/-- The cell counting what step `s` has brought to device `d`. -/
abbrev rcell (d : Dev nD) (dir : Bool) (q : Fin 2) (s : ℕ) : GSem nD τ sig :=
  ((d : Thread nD τ), .dma (semOf dir true (sl (s + 1)) q))
/-- The barrier's cell on device `d`. -/
abbrev barCell (d : Dev nD) : GSem nD τ sig := ((d : Thread nD τ), .reg barS.sem)

theorem stepOf_send (dir : Bool) (q : Fin 2) (s : ℕ) : stepOf (semOf dir false (sl s) q) (s / 8) = s := by
  unfold stepOf; rw [rcvOf_semOf, slotOf_semOf]; simp only [sl, Bool.false_eq_true, if_false]; omega
theorem stepOf_recv (dir : Bool) (q : Fin 2) (s : ℕ) : stepOf (semOf dir true (sl (s + 1)) q) (s / 8) = s := by
  unfold stepOf; rw [rcvOf_semOf, slotOf_semOf]; simp only [sl, if_true]; omega
theorem sl_mod (s : ℕ) : sl (s % 8) = sl s := Fin.ext (Nat.mod_mod _ _)
theorem sl_add8 (s : ℕ) : sl (s + 8) = sl s := Fin.ext (Nat.add_mod_right _ _)
theorem sl_eq {s t : ℕ} (h : s % 8 = t % 8) : sl s = sl t := Fin.ext h

/-- A copy's credit. -/
abbrev N : ℕ := (slotM false 0 0).view.dmaCredit
theorem N_pos : 0 < N := View.dmaCredit_pos _ (by decide)
theorem credit_eq : ∀ (dir : Bool) (k : Fin 8) (q : Fin 2), (slotM dir k q).view.dmaCredit = N
  | false, _, _ => rfl
  | true, _, _ => rfl

/-! ## Payloads -/

section Payloads

variable (X : Dev nD → (cc0_stg0_0 : Ref sig .tc).ty.Contents (Elt F))
  (W : Dev nD → (cc0_stg1_0 : Ref sig .tc).ty.Contents (Elt F))

/-- Slot `j` of device `e` given up: what it holds, and that the cell counting what arrives in it is at the round
    of the slot's second filling. -/
def rel (e : Dev nD) (dir : Bool) (q : Fin 2) (j : ℕ) : sProp 𝕄 :=
  iprop(anyP e dir q (sl j) ∗ reached ER (rcell e dir q (j + 7)) ((j + 7) / 8))

/-- The slots given up that have travelled to device `d` by the time it sends step `s`. -/
def hold (dir : Bool) (q : Fin 2) (s : ℕ) (d : Dev nD) : sProp 𝕄 :=
  bigSep (Finset.Ico (s - 7) (min s 7)) fun j => rel ((frm dir)^[s - j] d) dir q j

/-- What step `s` brings to device `d`. -/
def recvPay (dir : Bool) (q : Fin 2) (s : ℕ) (d : Dev nD) : sProp 𝕄 :=
  iprop(slotP d dir q (sl (s + 1)) fullShare (msg X W dir q s (frm dir d)) ∗ hold dir q (s + 1) d)

/-- What device `d` gets back when step `s` has left it: of the steps that only pass on, half a share of the slot. -/
def sendPay (dir : Bool) (q : Fin 2) (s : ℕ) (d : Dev nD) : sProp 𝕄 :=
  if s < 7 then iprop(emp) else slotP d dir q (sl s) fullShare.right (msg X W dir q s d)

/-- The slots of a direction that device `d`'s copies fill first. -/
def gift (dir : Bool) (q : Fin 2) (s : ℕ) (d : Dev nD) : sProp 𝕄 :=
  bigSep (Finset.Ico (s + 1) 8) fun j => anyP (peer d dir) dir q (sl j)

/-- What a neighbour's signal brings to device `d`: the slots its copies fill first. -/
def barPay (dir : Bool) (d : Dev nD) : sProp 𝕄 :=
  iprop(gift dir 0 0 d ∗ gift dir 1 0 d)

instance rel_storable (e : Dev nD) (dir : Bool) (q : Fin 2) (j : ℕ) : BI.Storable (upEmb : UEmb _ 𝕄) (rel (F := F) e dir q j) := by
  unfold rel; infer_instance
instance hold_storable (dir : Bool) (q : Fin 2) (s : ℕ) (d : Dev nD) : BI.Storable (upEmb : UEmb _ 𝕄) (hold (F := F) dir q s d) := by
  unfold hold; infer_instance
instance recvPay_storable (dir : Bool) (q : Fin 2) (s : ℕ) (d : Dev nD) : BI.Storable (upEmb : UEmb _ 𝕄) (recvPay X W dir q s d) := by
  unfold recvPay; infer_instance
instance sendPay_storable (dir : Bool) (q : Fin 2) (s : ℕ) (d : Dev nD) : BI.Storable (upEmb : UEmb _ 𝕄) (sendPay X W dir q s d) := by
  unfold sendPay; split <;> infer_instance
instance gift_storable (dir : Bool) (q : Fin 2) (s : ℕ) (d : Dev nD) : BI.Storable (upEmb : UEmb _ 𝕄) (gift (F := F) dir q s d) := by
  unfold gift; infer_instance
instance barPay_storable (dir : Bool) (d : Dev nD) : BI.Storable (upEmb : UEmb _ 𝕄) (barPay (F := F) dir d) := by
  unfold barPay; infer_instance

/-- Whether a round of a cell counts anything. -/
def dutyOf (g : GSem nD τ sig) (r : ℕ) : Finset Bool :=
  if g.1.2 = .tc then
    match g.2 with
    | .reg s => if r = 0 ∧ s = barS.sem then Finset.univ else ∅
    | .dma i => if 3 ≤ i.val ∧ stepOf i r < 14 then {false} else ∅
  else ∅

/-- What a round of a cell hands over. -/
def payOf (g : GSem nD τ sig) (r : ℕ) (b : Bool) : sProp 𝕄 :=
  match g.2 with
  | .reg _ => barPay b g.1.1
  | .dma i => if rcvOf i then recvPay X W (dirOf i) (hlfOf i) (stepOf i r) g.1.1 else sendPay X W (dirOf i) (hlfOf i) (stepOf i r) g.1.1

/-- What a duty of a cell counts. -/
def amtOf (g : GSem nD τ sig) : ℕ := match g.2 with
  | .reg _ => 1
  | .dma _ => N

theorem amtOf_pos (g : GSem nD τ sig) : 0 < amtOf g := by
  obtain ⟨_, i | i⟩ := g
  · exact Nat.one_pos
  · exact N_pos

/-- The rounds of every cell. -/
def ringRd : Rounds.Schedule (GSem nD τ sig) Bool 𝕄 where
  duties := dutyOf
  unitless _ := False
  amount g _ _ := amtOf g
  payload := payOf X W
  amount_pos g _ _ _ := amtOf_pos g

instance ringRd_payload_storable (g : GSem nD τ sig) (r : ℕ) (b : Bool) :
    BI.Storable (upEmb : UEmb _ 𝕄) ((ringRd (F := F) X W).payload g r b) := by
  show BI.Storable upEmb (payOf X W g r b)
  obtain ⟨_, i | i⟩ := g
  · exact barPay_storable b _
  · unfold payOf; dsimp only; split <;> infer_instance

variable (d : Dev nD) (dir : Bool) (q : Fin 2)

theorem duties_bar : (ringRd X W).duties (barCell d) 0 = Finset.univ := by
  show dutyOf (barCell d) 0 = _
  unfold dutyOf; rw [if_pos rfl]; exact if_pos ⟨rfl, rfl⟩
theorem duties_send (s : ℕ) (hs : s < 14) : (ringRd X W).duties (scell d dir q s) (s / 8) = {false} := by
  show dutyOf (scell d dir q s) _ = _
  unfold dutyOf; rw [if_pos rfl]; exact if_pos ⟨three_le_semOf _ _ _ _, by rw [stepOf_send]; exact hs⟩
theorem duties_recv (s : ℕ) (hs : s < 14) : (ringRd X W).duties (rcell d dir q s) (s / 8) = {false} := by
  show dutyOf (rcell d dir q s) _ = _
  unfold dutyOf; rw [if_pos rfl]; exact if_pos ⟨three_le_semOf _ _ _ _, by rw [stepOf_recv]; exact hs⟩

theorem amount_bar (b : Bool) : (ringRd X W).amount (barCell d) 0 b = 1 := rfl
theorem amount_dma (i : DmaSem sig) (r : ℕ) (b : Bool) : (ringRd X W).amount ((d : Thread nD τ), .dma i) r b = N := rfl

theorem expect_bar : (ringRd X W).expect (barCell d) 0 = 2 := by
  unfold Schedule.expect Schedule.amountOf
  rw [duties_bar, Finset.sum_congr rfl fun b _ => amount_bar X W d b, Finset.sum_const, Finset.card_univ, Fintype.card_bool, smul_eq_mul]
theorem expect_send (s : ℕ) (hs : s < 14) : (ringRd X W).expect (scell d dir q s) (s / 8) = N := by
  unfold Schedule.expect Schedule.amountOf; rw [duties_send X W d dir q s hs, Finset.sum_singleton]; rfl
theorem expect_recv (s : ℕ) (hs : s < 14) : (ringRd X W).expect (rcell d dir q s) (s / 8) = N := by
  unfold Schedule.expect Schedule.amountOf; rw [duties_recv X W d dir q s hs, Finset.sum_singleton]; rfl

theorem payload_bar (b : Bool) : (ringRd X W).payload (barCell d) 0 b = barPay b d := rfl
theorem payload_send (s : ℕ) (b : Bool) : (ringRd X W).payload (scell d dir q s) (s / 8) b = sendPay X W dir q s d := by
  show payOf X W (scell d dir q s) _ b = _
  unfold payOf; dsimp only
  rw [rcvOf_semOf, dirOf_semOf, hlfOf_semOf, stepOf_send]; rfl
theorem payload_recv (s : ℕ) (b : Bool) : (ringRd X W).payload (rcell d dir q s) (s / 8) b = recvPay X W dir q s d := by
  show payOf X W (rcell d dir q s) _ b = _
  unfold payOf; dsimp only
  rw [rcvOf_semOf, dirOf_semOf, hlfOf_semOf, stepOf_recv]; rfl

theorem rest_bar : bigSep ((ringRd X W).duties (barCell d) 0 \ ∅) (fun b => (ringRd X W).payload (barCell d) 0 b)
    = iprop(barPay false d ∗ barPay true d) := by
  rw [Finset.sdiff_empty, duties_bar, bigSep_univ_eq_bigSepL [false, true] (by decide) (by decide), bigSepL_cons_cons, bigSepL_singleton,
    payload_bar, payload_bar]
  rfl
theorem rest_send (s : ℕ) (hs : s < 14) :
    bigSep ((ringRd X W).duties (scell d dir q s) (s / 8) \ ∅) (fun b => (ringRd X W).payload (scell d dir q s) (s / 8) b)
      = sendPay X W dir q s d := by
  rw [Finset.sdiff_empty, duties_send X W d dir q s hs, bigSep_singleton, payload_send]
theorem rest_recv (s : ℕ) (hs : s < 14) :
    bigSep ((ringRd X W).duties (rcell d dir q s) (s / 8) \ ∅) (fun b => (ringRd X W).payload (rcell d dir q s) (s / 8) b)
      = recvPay X W dir q s d := by
  rw [Finset.sdiff_empty, duties_recv X W d dir q s hs, bigSep_singleton, payload_recv]

/-- No round of a cell counts anything from one on whose step is past the last. -/
theorem duties_past (i : DmaSem sig) (R : ℕ) (hR : 14 ≤ stepOf i R) :
    ∀ r, R ≤ r → (ringRd X W).duties ((d : Thread nD τ), .dma i) r = ∅ := fun r hr => by
  show dutyOf ((d : Thread nD τ), .dma i) r = _
  unfold dutyOf; rw [if_pos rfl]; refine if_neg fun h => ?_
  have := h.2
  unfold stepOf at this hR
  omega
theorem duties_bar_past : ∀ r, 1 ≤ r → (ringRd X W).duties (barCell d) r = ∅ := fun r hr => by
  show dutyOf (barCell d) r = _
  unfold dutyOf; rw [if_pos rfl]; exact if_neg fun h => absurd h.1 (by omega)

end Payloads

/-! ## What is owed, and the levels -/

/-- How many steps each strand has started. -/
abbrev Cnt := Bool → Fin 2 → ℕ

/-- One more step of a strand. -/
def bump (n : Cnt) (dir : Bool) (q : Fin 2) : Cnt := fun dir' q' => if dir' = dir ∧ q' = q then n dir' q' + 1 else n dir' q'

theorem bump_self (n : Cnt) (dir : Bool) (q : Fin 2) : bump n dir q dir q = n dir q + 1 := if_pos ⟨rfl, rfl⟩

theorem bump_all (k : ℕ) :
    bump (bump (bump (bump (fun _ _ => k) false 0) true 0) false 1) true 1 = fun _ _ => k + 1 := by
  funext dir q
  cases dir <;> fin_cases q <;> rfl

theorem le_bump (n : Cnt) (dir : Bool) (q : Fin 2) (dir' : Bool) (q' : Fin 2) : n dir' q' ≤ bump n dir q dir' q' := by
  unfold bump; split <;> omega

/-- What device `d` still owes a strand's receive cells on its peer, `n` steps started. -/
def owed1 (d : Dev nD) (dir : Bool) (q : Fin 2) (n : ℕ) : CellTallies nD τ sig ℕ :=
  ∑ s ∈ Finset.Ico n 14, tallyAt (rcell (peer d dir) dir q s) (s / 8) N

/-- What device `d` still owes receive cells. -/
def owed (d : Dev nD) (n : Cnt) : CellTallies nD τ sig ℕ :=
  owed1 d false 0 (n false 0) + owed1 d true 0 (n true 0) + owed1 d false 1 (n false 1) + owed1 d true 1 (n true 1)

/-- What device `d` owes until it has told its second neighbour. -/
def O₁ (d : Dev nD) : CellTallies nD τ sig ℕ := owed d (fun _ _ => 0) + tallyAt (barCell (frm true d)) 0 1
/-- What device `d` owes at launch. -/
def O₀ (d : Dev nD) : CellTallies nD τ sig ℕ := O₁ d + tallyAt (barCell (frm false d)) 0 1

theorem ico_insert {n m : ℕ} (h : n < m) : Finset.Ico n m = insert n (Finset.Ico (n + 1) m) := by
  ext x; simp only [Finset.mem_insert, Finset.mem_Ico]; omega
theorem ico_notMem (n m : ℕ) : n ∉ Finset.Ico (n + 1) m := by simp

theorem owed1_peel (d : Dev nD) (dir : Bool) (q : Fin 2) (n : ℕ) (h : n < 14) :
    owed1 d dir q n = owed1 d dir q (n + 1) + tallyAt (rcell (peer d dir) dir q n) (n / 8) N := by
  unfold owed1; rw [ico_insert h, Finset.sum_insert (ico_notMem n 14), add_comm]

theorem owed_peel (d : Dev nD) (n : Cnt) (dir : Bool) (q : Fin 2) (h : n dir q < 14) :
    owed d n = owed d (bump n dir q) + tallyAt (rcell (peer d dir) dir q (n dir q)) (n dir q / 8) N := by
  unfold owed
  cases dir <;> fin_cases q <;> dsimp only [Fin.zero_eta, Fin.mk_one] at h ⊢
  · rw [owed1_peel d false 0 _ h]; simp only [bump]; simp; ac_rfl
  · rw [owed1_peel d false 1 _ h]; simp only [bump]; simp; ac_rfl
  · rw [owed1_peel d true 0 _ h]; simp only [bump]; simp; ac_rfl
  · rw [owed1_peel d true 1 _ h]; simp only [bump]; simp; ac_rfl

theorem owed_end (d : Dev nD) : owed d (fun _ _ => 14) = 0 := by
  unfold owed owed1; simp

/-- Every core's cells carry the two rounds. -/
def L (g : GSem nD τ sig) : Finset ℕ := if g.1.2 = .tc then {0, 1} else ∅
/-- The barrier at 1, what arrives at step `s` at `s + 2`, the rest at 0. -/
def lv (g : GSem nD τ sig) (r : ℕ) : ℕ := match g.2 with
  | .reg _ => 1
  | .dma i => if rcvOf i ∧ 3 ≤ i.val then stepOf i r + 2 else 0

theorem L_of_ne (g : GSem nD τ sig) (h : g.1.2 ≠ .tc) : L g = ∅ := if_neg h
theorem L_tc (d : Dev nD) (sm : SemLoc sig) : L ((d : Thread nD τ), sm) = {0, 1} := if_pos rfl
theorem lv_recv (d : Dev nD) (dir : Bool) (q : Fin 2) (s : ℕ) : lv (rcell d dir q s) (s / 8) = s + 2 := by
  unfold lv; dsimp only; rw [if_pos ⟨rcvOf_semOf _ _ _ _, three_le_semOf _ _ _ _⟩, stepOf_recv]
theorem lv_send (d : Dev nD) (dir : Bool) (q : Fin 2) (s : ℕ) (r : ℕ) : lv (scell d dir q s) r = 0 := by
  unfold lv; dsimp only; rw [if_neg fun h => by rw [rcvOf_semOf] at h; exact absurd h.1 (by decide)]

theorem owed1_pos {d : Dev nD} {dir : Bool} {q : Fin 2} {n : ℕ} {g : GSem nD τ sig} {u : ℕ} (h : 0 < owed1 d dir q n g u) :
    ∃ s, n ≤ s ∧ s < 14 ∧ g = rcell (peer d dir) dir q s ∧ u = s / 8 := by
  unfold owed1 at h
  rw [Finset.sum_apply, Finsupp.finset_sum_apply] at h
  obtain ⟨s, hs, hp⟩ := Finset.exists_ne_zero_of_sum_ne_zero (Nat.pos_iff_ne_zero.mp h)
  rw [tallyAt_apply] at hp
  have hg : g = rcell (peer d dir) dir q s ∧ u = s / 8 := by
    by_contra hn; rw [if_neg hn] at hp; exact hp rfl
  exact ⟨s, (Finset.mem_Ico.mp hs).1, (Finset.mem_Ico.mp hs).2, hg⟩

theorem owed_pos {d : Dev nD} {n : Cnt} {g : GSem nD τ sig} {u : ℕ} (h : 0 < owed d n g u) :
    ∃ dir q s, n dir q ≤ s ∧ s < 14 ∧ g = rcell (peer d dir) dir q s ∧ u = s / 8 := by
  unfold owed at h
  rw [Pi.add_apply, Finsupp.add_apply, Pi.add_apply, Finsupp.add_apply, Pi.add_apply, Finsupp.add_apply] at h
  rcases Nat.lt_or_ge 0 (owed1 d false 0 (n false 0) g u) with h1 | h1
  · obtain ⟨s, hs⟩ := owed1_pos h1; exact ⟨_, _, s, hs⟩
  rcases Nat.lt_or_ge 0 (owed1 d true 0 (n true 0) g u) with h2 | h2
  · obtain ⟨s, hs⟩ := owed1_pos h2; exact ⟨_, _, s, hs⟩
  rcases Nat.lt_or_ge 0 (owed1 d false 1 (n false 1) g u) with h3 | h3
  · obtain ⟨s, hs⟩ := owed1_pos h3; exact ⟨_, _, s, hs⟩
  rcases Nat.lt_or_ge 0 (owed1 d true 1 (n true 1) g u) with h4 | h4
  · obtain ⟨s, hs⟩ := owed1_pos h4; exact ⟨_, _, s, hs⟩
  omega

theorem round_mem (d : Dev nD) (sm : SemLoc sig) (s : ℕ) (hs : s < 14) : s / 8 ∈ L ((d : Thread nD τ), sm) := by
  rw [L_tc, Finset.mem_insert, Finset.mem_singleton]; omega

/-- A device may wait on a cell below every receive cell it still owes. -/
theorem mayWait_owed (d : Dev nD) (n : Cnt) (sm : SemLoc sig) (u : ℕ) (cut : ℕ)
    (hu : u ∈ L ((d : Thread nD τ), sm)) (hlv : lv ((d : Thread nD τ), sm) u ≤ cut) (hn : ∀ dir q, cut < n dir q + 2) :
    (levAts L lv : sProp 𝕄) ⊢ MayWait (d : Thread nD τ) sm u (owed d n) :=
  MayOwe.of_cut (L := L) (lev := lv) cut (fun p hp => by rw [Finset.mem_singleton.mp hp]; exact hu)
    (fun g u' hg => by
      obtain ⟨dir, q, s, -, hs, rfl, rfl⟩ := owed_pos hg; exact round_mem _ _ s hs)
    (fun p hp => by rw [Finset.mem_singleton.mp hp]; exact hlv)
    (fun g u' hg => by
      obtain ⟨dir, q, s, hs', hs, rfl, rfl⟩ := owed_pos hg
      rw [lv_recv]; have := hn dir q; omega)

/-- While the staged blocks arrive, a device may wait for them. -/
theorem mayWait_stage (d : Dev nD) (i : DmaSem sig) (hi : i.val < 3) (O : CellTallies nD τ sig ℕ) (hO : O = O₀ d ∨ O = 0) :
    (levAts L lv : sProp 𝕄) ⊢ MayWait (d : Thread nD τ) (.dma i) 0 O := by
  rcases hO with rfl | rfl
  · have key : ∀ g u, 0 < O₀ d g u → u ∈ L g ∧ 0 < lv g u := fun g u h => by
      unfold O₀ O₁ at h
      rw [Pi.add_apply, Finsupp.add_apply, Pi.add_apply, Finsupp.add_apply, tallyAt_apply, tallyAt_apply] at h
      by_cases h1 : 0 < owed d (fun _ _ => 0) g u
      · obtain ⟨dir, q, s, -, hs, rfl, rfl⟩ := owed_pos h1
        exact ⟨round_mem _ _ s hs, by rw [lv_recv]; omega⟩
      by_cases h2 : g = barCell (frm true d) ∧ u = 0
      · obtain ⟨rfl, rfl⟩ := h2; exact ⟨by rw [L_tc]; exact Finset.mem_insert_self _ _, Nat.one_pos⟩
      by_cases h3 : g = barCell (frm false d) ∧ u = 0
      · obtain ⟨rfl, rfl⟩ := h3; exact ⟨by rw [L_tc]; exact Finset.mem_insert_self _ _, Nat.one_pos⟩
      rw [if_neg h2, if_neg h3] at h; exact absurd h (by omega)
    exact MayOwe.of_cut (L := L) (lev := lv) 0 (fun p hp => by rw [Finset.mem_singleton.mp hp, L_tc]; exact Finset.mem_insert_self _ _)
      (fun g u hg => (key g u hg).1)
      (fun p hp => by rw [Finset.mem_singleton.mp hp]; unfold lv; dsimp only; rw [if_neg fun h => absurd h.2 (by omega)])
      (fun g u hg => (key g u hg).2)
  · rw [MayWait_zero]; iintro -; iempintro

end Cert.KernelIdeal.Ring

end
-- ==== Proof.KI.Strand.lean ====
/- One strand of the ring (a direction and a half): what the device holds of it between steps, and the rules for
   starting a step and for waiting for it. -/
module

public import proofs.«01_k».proof.Proof.KI.Sched

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- One of a family. -/
theorem sep_elim {I : Type} [DecidableEq I] (S : Finset I) (Φ : I → sProp 𝕄) (i : I) (hi : i ∈ S) : bigSep S Φ ⊢ Φ i :=
  bigSep_elim hi
/-- One of a family, and the rest. -/
theorem sep_take {I : Type} [DecidableEq I] (S : Finset I) (Φ : I → sProp 𝕄) (i : I) (hi : i ∈ S) :
    bigSep S Φ = iprop(Φ i ∗ bigSep (S.erase i) Φ) := bigSep_erase hi
/-- A family with one more. -/
theorem sep_put {I : Type} [DecidableEq I] (S : Finset I) (Φ : I → sProp 𝕄) (i : I) (hi : i ∉ S) :
    bigSep (insert i S) Φ = iprop(Φ i ∗ bigSep S Φ) := bigSep_insert hi

/-- A device's cells: its barrier's, and by direction, kind, half and slot those of its copies. -/
abbrev CI := Option (Bool × Bool × Fin 2 × Fin 8)

/-- A cell of a device. -/
abbrev kcell (x : Dev nD × CI) : GSem nD τ sig := match x.2 with
  | none => barCell x.1
  | some (dir, recv, q, k) => ((x.1 : Thread nD τ), .dma (semOf dir recv k q))

section Ctx

variable (X : Dev nD → (cc0_stg0_0 : Ref sig .tc).ty.Contents (Elt F))
  (W : Dev nD → (cc0_stg1_0 : Ref sig .tc).ty.Contents (Elt F)) (K : Dev nD × CI → ℕ)

/-- What every device knows: the cells' invariants, that every cell is at least at its first round, the levels. -/
def Ctx : sProp 𝕄 :=
  iprop((bigSep Finset.univ fun x : Dev nD × CI => cellInv ER (ringRd X W) (K x) (kcell x))
    ∗ (bigSep Finset.univ fun x : Dev nD × CI => reached ER (kcell x) 0) ∗ levAts L lv)

instance ctx_persistent : BI.Persistent (Ctx X W K) := by unfold Ctx; infer_instance

theorem ctx_inv (x : Dev nD × CI) : Ctx X W K ⊢ (cellInv ER (ringRd X W) (K x) (kcell x) : sProp 𝕄) := by
  unfold Ctx
  iintro ⟨#H, -, -⟩
  iapply (sep_elim Finset.univ (fun x : Dev nD × CI => (cellInv ER (ringRd X W) (K x) (kcell x) : sProp 𝕄)) x (Finset.mem_univ x))
  iexact H
theorem ctx_reached (x : Dev nD × CI) : Ctx X W K ⊢ (reached ER (kcell x) 0 : sProp 𝕄) := by
  unfold Ctx
  iintro ⟨-, #H, -⟩
  iapply (sep_elim Finset.univ (fun x : Dev nD × CI => (reached ER (kcell x) 0 : sProp 𝕄)) x (Finset.mem_univ x))
  iexact H
theorem ctx_lev : Ctx X W K ⊢ (levAts L lv : sProp 𝕄) := by
  unfold Ctx
  iintro ⟨-, -, #H⟩; iexact H

/-- The invariant's name of a send cell, of a receive cell. -/
abbrev sK (d : Dev nD) (dir : Bool) (q : Fin 2) (s : ℕ) : ℕ := K (d, some (dir, false, q, sl s))
abbrev rK (d : Dev nD) (dir : Bool) (q : Fin 2) (s : ℕ) : ℕ := K (d, some (dir, true, q, sl (s + 1)))

end Ctx

/-! ## A strand's holdings -/

section Hold

variable (d : Dev nD) (dir : Bool) (q : Fin 2)

/-- Which round the cells of step `a < 8` (and of step `a + 8`) are at, `n` steps waited for. -/
def cnt (n a : ℕ) : ℕ := (n + 7 - a) / 8

/-- The device's place at the two cells of step `a`, `r` rounds in. -/
def place (a r : ℕ) : sProp 𝕄 :=
  iprop(atPos ER (scell d dir q a) r ∅ 0 ∗ reached ER (scell d dir q a) r
    ∗ atPos ER (rcell d dir q a) r ∅ 0 ∗ reached ER (rcell d dir q a) r)
/-- The device's places, `n` steps waited for. -/
def places (n : ℕ) : sProp 𝕄 := bigSep (Finset.range 8) fun a => place d dir q a (cnt n a)
/-- All places but that of step `n`. -/
def placesBut (n : ℕ) : sProp 𝕄 := bigSep ((Finset.range 8).erase (n % 8)) fun a => place d dir q a (cnt n a)
/-- The tokens for the steps from `n` on. -/
def toks (n : ℕ) : sProp 𝕄 :=
  bigSep (Finset.Ico n 14) fun s => iprop(dutyTok ER (scell d dir q s) (s / 8) false ∗ dutyTok ER (rcell (peer d dir) dir q s) (s / 8) false)
/-- The credits of the steps from `n` on. -/
def creds (n : ℕ) : sProp 𝕄 := bigSep (Finset.Ico n 14) fun s => cred (tallyAt (rcell d dir q s) (s / 8) N)
/-- The slots whose contents have been passed on. -/
def done (n : ℕ) : sProp 𝕄 := bigSep (Finset.Ico 7 n) fun j => anyP (F := F) d dir q (sl j)

theorem place_eq {a b r r' : ℕ} (h : a % 8 = b % 8) (hr : r = r') : place (F := F) d dir q a r = place d dir q b r' := by
  unfold place scell rcell
  rw [sl_eq h, sl_eq (s := a + 1) (t := b + 1) (by omega), hr]

theorem places_open (n : ℕ) : places (F := F) d dir q n = iprop(place d dir q n (n / 8) ∗ placesBut d dir q n) := by
  unfold places placesBut
  rw [bigSep_erase (i := n % 8) (Finset.mem_range.mpr (Nat.mod_lt _ (by decide))),
    place_eq d dir q (b := n) (r' := n / 8) (Nat.mod_mod _ _) (by unfold cnt; omega)]
  rfl
theorem places_close (n : ℕ) : places (F := F) d dir q (n + 1) = iprop(place d dir q n (n / 8 + 1) ∗ placesBut d dir q n) := by
  unfold places placesBut
  rw [bigSep_erase (i := n % 8) (Finset.mem_range.mpr (Nat.mod_lt _ (by decide))),
    place_eq d dir q (b := n) (r' := n / 8 + 1) (Nat.mod_mod _ _) (by unfold cnt; omega),
    bigSep_congr (Ψ := fun a => place d dir q a (cnt n a)) fun a ha => by
      have h1 := Finset.ne_of_mem_erase ha
      have h2 := Finset.mem_range.mp (Finset.mem_of_mem_erase ha)
      exact place_eq d dir q rfl (by unfold cnt; omega)]
  rfl

/-- The cell counting what fills the slot of step `n` for the second time. -/
theorem places_reached (n : ℕ) (hn : n < 7) :
    places (F := F) d dir q n ⊢ iprop(places d dir q n ∗ reached ER (rcell d dir q (n + 7)) ((n + 7) / 8)) := by
  have hm : (n + 7) % 8 ∈ Finset.range 8 := Finset.mem_range.mpr (Nat.mod_lt _ (by decide))
  have he : place (F := F) d dir q ((n + 7) % 8) (cnt n ((n + 7) % 8)) = place d dir q (n + 7) ((n + 7) / 8) :=
    place_eq d dir q (Nat.mod_mod _ _) (by unfold cnt; omega)
  unfold places
  rw [sep_take _ _ _ hm, he]
  unfold place
  iintro ⟨⟨H1, H2, H3, #H4⟩, H5⟩
  isplitl
  · isplitr [H5]
    · isplitl [H1]; · iexact H1
      isplitl [H2]; · iexact H2
      isplitl [H3]; · iexact H3
      iexact H4
    iexact H5
  iexact H4

theorem toks_peel (n : ℕ) (h : n < 14) : toks (F := F) d dir q n
    = iprop((dutyTok ER (scell d dir q n) (n / 8) false ∗ dutyTok ER (rcell (peer d dir) dir q n) (n / 8) false) ∗ toks d dir q (n + 1)) := by
  unfold toks; rw [ico_insert h, bigSep_insert (ico_notMem n 14)]; rfl
theorem creds_peel (n : ℕ) (h : n < 14) : creds (F := F) d dir q n
    = iprop(cred (tallyAt (rcell d dir q n) (n / 8) N) ∗ creds d dir q (n + 1)) := by
  unfold creds; rw [ico_insert h, bigSep_insert (ico_notMem n 14)]; rfl
theorem gift_peel (n : ℕ) (h : n < 7) : gift (F := F) dir q n d
    = iprop(anyP (peer d dir) dir q (sl (n + 1)) ∗ gift dir q (n + 1) d) := by
  unfold gift; rw [ico_insert (n := n + 1) (by omega), bigSep_insert (ico_notMem _ 8)]; rfl
theorem gift_none (n : ℕ) (h : 7 ≤ n) : gift (F := F) dir q n d = iprop(emp) := by
  unfold gift; rw [Finset.Ico_eq_empty (by omega)]; rfl
theorem done_none (n : ℕ) (h : n ≤ 7) : done (F := F) d dir q n = iprop(emp) := by
  unfold done; rw [Finset.Ico_eq_empty (by omega)]; rfl
theorem done_push (n : ℕ) (h : 7 ≤ n) : done (F := F) d dir q (n + 1) = iprop(anyP d dir q (sl n) ∗ done d dir q n) := by
  unfold done
  rw [show Finset.Ico 7 (n + 1) = insert n (Finset.Ico 7 n) from by
    ext x; simp only [Finset.mem_insert, Finset.mem_Ico]; omega, bigSep_insert (by simp)]
  rfl

/-- Giving up the slot of step `s`, a reduce-scatter step, on sending it. -/
theorem hold_push (s : ℕ) (h : s < 7) :
    iprop(hold (F := F) dir q s d ∗ rel d dir q s) = hold dir q (s + 1) (peer d dir) := by
  unfold hold
  rw [show Finset.Ico (s + 1 - 7) (min (s + 1) 7) = insert s (Finset.Ico (s - 7) (min s 7)) from by
      ext x; simp only [Finset.mem_insert, Finset.mem_Ico]; omega,
    sep_put _ _ _ (by simp), Nat.add_sub_cancel_left, bigSep_congr (s := Finset.Ico (s - 7) (min s 7))
      (Φ := fun j => rel (F := F) ((frm dir)^[s + 1 - j] (peer d dir)) dir q j)
      (Ψ := fun j => rel (F := F) ((frm dir)^[s - j] d) dir q j) fun j hj => by
        have := (Finset.mem_Ico.mp hj).2
        rw [show s + 1 - j = (s - j) + 1 from by omega, Function.iterate_succ_apply, frm_peer]]
  rw [show (frm dir)^[1] (peer d dir) = d from frm_peer dir d]
  exact equiv_iff.mp ⟨Idealize.SL.BI.sep_comm, Idealize.SL.BI.sep_comm⟩
/-- Taking the slot that step `s`, an all-gather step, fills on the peer. -/
theorem hold_pop (s : ℕ) (h : 7 ≤ s) (h' : s < 14) :
    hold (F := F) dir q s d = iprop(rel (peer d dir) dir q (s - 7) ∗ hold dir q (s + 1) (peer d dir)) := by
  unfold hold
  rw [ico_insert (n := s - 7) (m := min s 7) (by omega), bigSep_insert (ico_notMem _ _)]
  rw [show s - (s - 7) = 7 from by omega, frm7, show min (s + 1) 7 = min s 7 from by omega, show s + 1 - 7 = s - 7 + 1 from by omega]
  rw [bigSep_congr (s := Finset.Ico (s - 7 + 1) (min s 7))
      (Φ := fun j => rel (F := F) ((frm dir)^[s - j] d) dir q j)
      (Ψ := fun j => rel (F := F) ((frm dir)^[s + 1 - j] (peer d dir)) dir q j) fun j hj => by
        have := (Finset.mem_Ico.mp hj).2
        rw [show s + 1 - j = (s - j) + 1 from by omega, Function.iterate_succ_apply, frm_peer]]
  rfl
theorem hold_first : hold (F := F) dir q 0 d = iprop(emp) := rfl
theorem hold_last : hold (F := F) dir q 14 d = iprop(emp) := by unfold hold; rw [Finset.Ico_eq_empty (by decide)]; rfl

/-- What the device holds of a strand between waiting for step `n - 1` and starting step `n`, its slot reading `v`. -/
def St (n : ℕ) (v : Vec F S1x128x1024 .bf16) : sProp 𝕄 :=
  iprop(places d dir q n ∗ toks d dir q n ∗ creds d dir q n ∗ slotP d dir q (sl n) fullShare v
    ∗ hold dir q n d ∗ gift dir q n d ∗ done d dir q n)

variable (X : Dev nD → (cc0_stg0_0 : Ref sig .tc).ty.Contents (Elt F))
  (W : Dev nD → (cc0_stg1_0 : Ref sig .tc).ty.Contents (Elt F)) (K : Dev nD × CI → ℕ)

/-- What the device keeps of the slot that step `n` copies. -/
def kept (n : ℕ) : sProp 𝕄 := if n < 7 then iprop(emp) else slotP d dir q (sl n) fullShare.left (msg X W dir q n d)

/-- The two shares of a slot that has been passed on. -/
theorem done_step (n : ℕ) : iprop(kept d dir q X W n ∗ sendPay X W dir q n d ∗ done d dir q n) ⊢ done (F := F) d dir q (n + 1) := by
  unfold kept sendPay
  by_cases h : n < 7
  · rw [if_pos h, if_pos h, done_none d dir q n (by omega), done_none d dir q (n + 1) (by omega)]
    iintro -; iempintro
  · rw [if_neg h, if_neg h, done_push d dir q n (by omega)]
    iintro ⟨Hkp, Hsp, Hd⟩
    isplitr [Hd]
    · unfold anyP; iexists _
      iapply (slotP_whole d dir q (sl n) (msg X W dir q n d))
      isplitl [Hkp]; · iexact Hkp
      iexact Hsp
    iexact Hd

/-- What the device holds of a strand between starting step `n` and waiting for it. -/
def Sent (n : ℕ) : sProp 𝕄 :=
  iprop(places d dir q n ∗ toks d dir q (n + 1) ∗ creds d dir q n ∗ cred (tallyAt (scell d dir q n) (n / 8) N)
    ∗ kept d dir q X W n ∗ gift dir q (n + 1) d ∗ done d dir q n)

/-- What the device owes, whatever it has waited for. -/
def owesE (O : CellTallies nD τ sig ℕ) : sProp 𝕄 := iprop(∃ Ws, owes (d : Thread nD τ) O Ws)

end Hold

/-! ## The rules -/

section Rules

variable (X : Dev nD → (cc0_stg0_0 : Ref sig .tc).ty.Contents (Elt F))
  (W : Dev nD → (cc0_stg1_0 : Ref sig .tc).ty.Contents (Elt F)) (K : Dev nD × CI → ℕ)
  (d : Dev nD) (dir : Bool) (q : Fin 2)

theorem credit_amount (n : ℕ) : (slotM dir (sl (n + 1)) q).view.amount (.dma (semOf dir true (sl (n + 1)) q)) = N :=
  credit_eq dir _ q

/-- Starting a reduce-scatter step: the slot goes with the copy. -/
theorem wp_copy_red (n : ℕ) (hn : n < 7) (c : Cnt) (hc : c dir q = n) (Kt : PUnit → sProp 𝕄) :
    iprop(Ctx X W K ∗ owesE d (owed d c) ∗ St d dir q n (msg X W dir q n d)
        ∗ ((owesE d (owed d (bump c dir q)) ∗ Sent d dir q X W n) -∗ Kt ⟨⟩))
      ⊢ WP d (copyP d dir q n) Kt := by
  unfold St Sent owesE
  rw [toks_peel d dir q n (by omega), gift_peel d dir q n hn]
  iintro ⟨#Hctx, ⟨%Ws, Ho⟩, ⟨Hpl, ⟨⟨Hts, Htr⟩, Htk⟩, Hcr, Hsl, Hh, ⟨Hdst, Hg⟩, Hd⟩, Hk⟩
  ihave Hpl2 := (places_reached d dir q n hn) $$ Hpl
  icases Hpl2 with ⟨Hpl, #Hrr⟩
  ihave Hop := (Entails.of_eq (places_open d dir q n)) $$ Hpl
  unfold place
  icases Hop with ⟨⟨Ha, #Hrs, Hb, #Hrb⟩, Hbut⟩
  unfold anyP slotP
  icases Hsl with ⟨%fs, %hfs, Hsl⟩
  icases Hdst with ⟨%v', %fd, %hfd, Hdst⟩
  unfold copyP Prog.lift
  iapply (Rounds.wp_send_landing_pointsTo_with 𝒱₀ ER (ringRd X W) (d : Thread nD τ) none
      (κ₁ := sK K d dir q n) (κ₂ := rK K (peer d dir) dir q n) (r₁ := n / 8) (r₂ := n / 8) (d₁ := false) (d₂ := false)
      (q := fullShare) (fs := fs) (fd := fd)
      (F := iprop(hold dir q n d ∗ reached ER (rcell d dir q (n + 7)) ((n + 7) / 8)))
      (by rw [duties_send X W d dir q n (by omega)]; exact Finset.mem_singleton_self _)
      (by rw [duties_recv X W (peer d dir) dir q n (by omega)]; exact Finset.mem_singleton_self _)
      (n / 8) (n / 8) N (credit_amount dir q n) rfl rfl (owed d (bump c dir q)) (hc ▸ owed_peel d c dir q (by omega))
      (by rw [payload_send]; unfold sendPay; rw [if_pos hn])
      (by
        rw [payload_recv]; unfold recvPay
        rw [frm_peer, ← hold_push d dir q n hn]
        unfold rel anyP slotP
        iintro ⟨⟨H1, H2, #H3⟩, H4⟩
        isplitl [H1]
        · iexists _; isplitr; · (ipureintro; exact (landed_read dir (sl n) (sl (n + 1)) q fs fd).trans hfs)
          iexact H1
        isplitl [H2]; · iexact H2
        isplitl [H4]
        · iexists _; iexists fs; isplitr; · (ipureintro; exact hfs)
          iexact H4
        iexact H3)) $$ [Ho Hts Htr Hsl Hdst Hh]
  · isplitr; · iapply (ctx_inv X W K (d, some (dir, false, q, sl n))); iexact Hctx
    isplitr; · iapply (ctx_inv X W K (peer d dir, some (dir, true, q, sl (n + 1)))); iexact Hctx
    isplitl [Hsl]; · iexact Hsl
    isplitl [Hdst Hh]
    · isplitl [Hdst]; · iexact Hdst
      isplitl [Hh]; · iexact Hh
      iexact Hrr
    isplitl [Ho]; · iexact Ho
    isplitl [Hts]; · iexact Hts
    isplitr; · iexact Hrs
    isplitl [Htr]; · iexact Htr
    rw [show n / 8 = 0 from by omega]
    iapply (ctx_reached X W K (peer d dir, some (dir, true, q, sl (n + 1)))); iexact Hctx
  iintro ⟨Hc, Ho⟩
  rw [wp_ret]; imodintro
  iapply Hk
  isplitl [Ho]; · iexists Ws; iexact Ho
  isplitl [Ha Hb Hbut]
  · iapply (Entails.of_eq (places_open d dir q n).symm)
    unfold place
    isplitr [Hbut]
    · isplitl [Ha]; · iexact Ha
      isplitr; · iexact Hrs
      isplitl [Hb]; · iexact Hb
      iexact Hrb
    iexact Hbut
  isplitl [Htk]; · iexact Htk
  isplitl [Hcr]; · iexact Hcr
  isplitl [Hc]; · iexact Hc
  isplitr
  · unfold kept; rw [if_pos hn]; iempintro
  isplitl [Hg]; · iexact Hg
  iexact Hd

/-- Starting an all-gather step: half a share of the slot goes with the copy. -/
theorem wp_copy_gat (n : ℕ) (hn : 7 ≤ n) (hn' : n < 14) (c : Cnt) (hc : c dir q = n) (Kt : PUnit → sProp 𝕄) :
    iprop(Ctx X W K ∗ owesE d (owed d c) ∗ St d dir q n (msg X W dir q n d)
        ∗ ((owesE d (owed d (bump c dir q)) ∗ Sent d dir q X W n) -∗ Kt ⟨⟩))
      ⊢ WP d (copyP d dir q n) Kt := by
  unfold St Sent owesE
  rw [toks_peel d dir q n (by omega), gift_none d dir q n hn, gift_none d dir q (n + 1) (by omega), hold_pop d dir q n hn hn']
  iintro ⟨#Hctx, ⟨%Ws, Ho⟩, ⟨Hpl, ⟨⟨Hts, Htr⟩, Htk⟩, Hcr, Hsl, ⟨Hrel, Hh⟩, -, Hd⟩, Hk⟩
  ihave Hop := (Entails.of_eq (places_open d dir q n)) $$ Hpl
  unfold place rel
  icases Hop with ⟨⟨Ha, #Hrs, Hb, #Hrb⟩, Hbut⟩
  icases Hrel with ⟨Hdst, Hrr⟩
  rw [show n - 7 + 7 = n from by omega, sl_eq (s := n - 7) (t := n + 1) (by omega)]
  ihave Hsl2 := (slotP_halves d dir q (sl n) (msg X W dir q n d)) $$ Hsl
  icases Hsl2 with ⟨Hkeep, Hsl⟩
  unfold anyP
  icases Hdst with ⟨%v', Hdst⟩
  ihave Hsl := (Entails.of_eq (slotP_eq d dir q (sl n) fullShare.right (msg X W dir q n d))) $$ Hsl
  ihave Hdst := (Entails.of_eq (slotP_eq (peer d dir) dir q (sl (n + 1)) fullShare v')) $$ Hdst
  icases Hsl with ⟨%fs, %hfs, Hsl⟩
  icases Hdst with ⟨%fd, %hfd, Hdst⟩
  unfold copyP Prog.lift
  iapply (Rounds.wp_send_pointsTo_with 𝒱₀ ER (ringRd X W) (d : Thread nD τ) none
      (κ₁ := sK K d dir q n) (κ₂ := rK K (peer d dir) dir q n) (r₁ := n / 8) (r₂ := n / 8) (d₁ := false) (d₂ := false)
      (q := fullShare.right) (fs := fs) (fd := fd)
      (F := hold dir q (n + 1) (peer d dir))
      (by rw [duties_send X W d dir q n (by omega)]; exact Finset.mem_singleton_self _)
      (by rw [duties_recv X W (peer d dir) dir q n (by omega)]; exact Finset.mem_singleton_self _)
      (n / 8) (n / 8) N (credit_amount dir q n) rfl rfl (owed d (bump c dir q)) (hc ▸ owed_peel d c dir q (by omega))
      (by
        rw [payload_send]; unfold sendPay; rw [if_neg (by omega)]
        unfold slotP
        iintro H
        iexists fs; isplitr; · (ipureintro; exact hfs)
        iexact H)
      (by
        rw [payload_recv]; unfold recvPay
        rw [frm_peer]
        unfold slotP
        iintro ⟨H1, H2⟩
        isplitl [H1]
        · iexists _; isplitr; · (ipureintro; exact (landed_read dir (sl n) (sl (n + 1)) q fs fd).trans hfs)
          iexact H1
        iexact H2)) $$ [Ho Hts Htr Hsl Hdst Hh Hrr]
  · isplitr; · iapply (ctx_inv X W K (d, some (dir, false, q, sl n))); iexact Hctx
    isplitr; · iapply (ctx_inv X W K (peer d dir, some (dir, true, q, sl (n + 1)))); iexact Hctx
    isplitl [Hsl]; · iexact Hsl
    isplitl [Hdst Hh]
    · isplitl [Hdst]; · iexact Hdst
      iexact Hh
    isplitl [Ho]; · iexact Ho
    isplitl [Hts]; · iexact Hts
    isplitr; · iexact Hrs
    isplitl [Htr]; · iexact Htr
    iexact Hrr
  iintro ⟨Hc, Ho⟩
  rw [wp_ret]; imodintro
  iapply Hk
  isplitl [Ho]; · iexists Ws; iexact Ho
  isplitl [Ha Hb Hbut]
  · iapply (Entails.of_eq (places_open d dir q n).symm)
    unfold place
    isplitr [Hbut]
    · isplitl [Ha]; · iexact Ha
      isplitr; · iexact Hrs
      isplitl [Hb]; · iexact Hb
      iexact Hrb
    iexact Hbut
  isplitl [Htk]; · iexact Htk
  isplitl [Hcr]; · iexact Hcr
  isplitl [Hc]; · iexact Hc
  isplitl [Hkeep]
  · unfold kept; rw [if_neg (by omega)]; iexact Hkeep
  isplitr; · iempintro
  iexact Hd

/-- Starting a step. -/
theorem wp_copy (n : ℕ) (hn : n < 14) (c : Cnt) (hc : c dir q = n) (Kt : PUnit → sProp 𝕄) :
    iprop(Ctx X W K ∗ owesE d (owed d c) ∗ St d dir q n (msg X W dir q n d)
        ∗ ((owesE d (owed d (bump c dir q)) ∗ Sent d dir q X W n) -∗ Kt ⟨⟩))
      ⊢ WP d (copyP d dir q n) Kt := by
  by_cases h : n < 7
  · exact wp_copy_red X W K d dir q n h c hc Kt
  · exact wp_copy_gat X W K d dir q n (by omega) hn c hc Kt

/-- Waiting until a step has left and arrived. -/
theorem wp_waits {α : Type} (n : ℕ) (hn : n < 14) (c : Cnt) (hc : ∀ dir' q', n < c dir' q') (k : Prog (Eff F) α) (Kt : α → sProp 𝕄) :
    iprop(Ctx X W K ∗ owesE d (owed d c) ∗ Sent d dir q X W n
        ∗ ((owesE d (owed d c) ∗ St d dir q (n + 1) (msg X W dir q n (frm dir d))) -∗ WP d k Kt))
      ⊢ WP d (waitSend dir q n >>= fun _ => waitRecv dir q n >>= fun _ => k) Kt := by
  unfold St Sent owesE
  rw [creds_peel d dir q n hn]
  iintro ⟨#Hctx, ⟨%Ws, Ho⟩, ⟨Hpl, Htk, ⟨Hcv, Hcr⟩, Hcs, Hkp, Hg, Hd⟩, Hk⟩
  ihave Hop := (Entails.of_eq (places_open d dir q n)) $$ Hpl
  unfold place
  icases Hop with ⟨⟨Ha, -, Hb, -⟩, Hbut⟩
  simp only [waitSend, waitRecv, Prog.lift, Prog.bind_op, Prog.bind_ret]
  iapply (Rounds.wp_wait_rest_token 𝒱₀ ER (ringRd X W) (d : Thread nD τ) none (κ := sK K d dir q n)
      (wpE_waitDma2_eq 𝒱₀ (d : Thread nD τ) none Set.univ) (Set.mem_univ _) (n / 8) (O := owed d c) (W := Ws)
      (R := n / 8) (m := 0) (T := ∅) (by rw [Nat.zero_add, expect_send X W d dir q n hn])) $$ [Hcs Ho Ha]
  · isplitr; · iapply (ctx_inv X W K (d, some (dir, false, q, sl n))); iexact Hctx
    isplitl [Hcs]
    · rw [credit_eq]; iexact Hcs
    isplitl [Ho]; · iexact Ho
    isplitr
    · iapply (mayWait_owed d c _ _ 0 (round_mem d _ n hn) (le_of_eq (lv_send d dir q n _)) (fun _ _ => by omega))
      iapply (ctx_lev X W K); iexact Hctx
    iexact Ha
  iintro ⟨Ho, Ha, #Hra, Hpay⟩
  ihave Hsp := (Entails.of_eq (rest_send X W d dir q n hn)) $$ Hpay
  iapply (Rounds.wp_wait_rest_token 𝒱₀ ER (ringRd X W) (d : Thread nD τ) none (κ := rK K d dir q n)
      (wpE_waitDma2_eq 𝒱₀ (d : Thread nD τ) none Set.univ) (Set.mem_univ _) (n / 8) (O := owed d c)
      (R := n / 8) (m := 0) (T := ∅) (by rw [Nat.zero_add, expect_recv X W d dir q n hn])) $$ [Hcv Ho Hb]
  · isplitr; · iapply (ctx_inv X W K (d, some (dir, true, q, sl (n + 1)))); iexact Hctx
    isplitl [Hcv]
    · rw [credit_eq]; iexact Hcv
    isplitl [Ho]; · iexact Ho
    isplitr
    · iapply (mayWait_owed d c _ _ (n + 2) (round_mem d _ n hn) (le_of_eq (lv_recv d dir q n)) (fun dir' q' => by have := hc dir' q'; omega))
      iapply (ctx_lev X W K); iexact Hctx
    iexact Hb
  iintro ⟨Ho, Hb, #Hrb, Hpay⟩
  ihave Hrp := (Entails.of_eq (rest_recv X W d dir q n hn)) $$ Hpay
  unfold recvPay
  icases Hrp with ⟨Hsl, Hh⟩
  iapply Hk
  isplitl [Ho]; · iexists _; iexact Ho
  isplitl [Ha Hb Hbut]
  · iapply (Entails.of_eq (places_close d dir q n).symm)
    unfold place
    isplitr [Hbut]
    · isplitl [Ha]; · iexact Ha
      isplitr; · iexact Hra
      isplitl [Hb]; · iexact Hb
      iexact Hrb
    iexact Hbut
  isplitl [Htk]; · iexact Htk
  isplitl [Hcr]; · iexact Hcr
  isplitl [Hsl]; · iexact Hsl
  isplitl [Hh]; · iexact Hh
  isplitl [Hg]; · iexact Hg
  iapply (done_step d dir q X W n)
  isplitl [Hkp]; · iexact Hkp
  isplitl [Hsp]; · iexact Hsp
  iexact Hd

end Rules

end Cert.KernelIdeal.Ring

end
-- ==== Proof.KI.Out.lean ====
/- The staged blocks: loads from the inputs, and the result filled block by block. -/
module

public import proofs.«01_k».proof.Proof.KI.Strand

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The result's blocks -/

/-- The chunk of rows that block `t` of a direction fills on device `d`: first its own, then those gathered. -/
def chunk (d : Dev nD) (dir : Bool) (t : ℕ) : Dev nD := if t = 0 then peer d dir else (frm dir)^[t - 1] d

theorem chunk_all : ∀ (d : Dev nD) (dir : Bool) (k : Dev nD), ∃ t < 8, chunk d dir t = k := by decide

theorem oOff_eq (d : Dev nD) (q : Fin 2) (dir : Bool) :
    oOff d q dir = ![256 * (chunk d dir 0).val + 128 * q.val, wOff dir] := by revert d q dir; decide
theorem gOff_eq (d : Dev nD) (t : Fin 7) (q : Fin 2) (dir : Bool) :
    gOff d t q dir = ![256 * (chunk d dir (t.val + 1)).val + 128 * q.val, wOff dir] := by revert d t q dir; decide +kernel

/-- The direction whose half of the columns an element of the result is in. -/
def dirAt (i : S2048x2048.Idx) : Bool := 1024 ≤ (i (0 + 1 : Fin 2)).val
/-- The half of its chunk's rows an element is in. -/
def hlfAt (i : S2048x2048.Idx) : Fin 2 := ⟨(i (0 : Fin 2)).val % 256 / 128, by omega⟩
/-- The chunk of rows an element is in. -/
def chkAt (i : S2048x2048.Idx) : Dev nD :=
  ⟨(i (0 : Fin 2)).val / 256, by
    have := (i (0 : Fin 2)).isLt; change (i (0 : Fin 2)).val < 2048 at this; show _ < 8; omega⟩
/-- Where in its block an element is. -/
def inBlk (i : S2048x2048.Idx) : S128x1024.Idx := fun a => match a with
  | ⟨0, _⟩ => ⟨(i (0 : Fin 2)).val % 128, Nat.mod_lt _ (by decide)⟩
  | ⟨1, _⟩ => ⟨(i (0 + 1 : Fin 2)).val % 1024, Nat.mod_lt _ (by decide)⟩

/-- The rows and columns of block `(k, q)` of a direction. -/
theorem blk_inb (k : Dev nD) (q : Fin 2) (dir : Bool) :
    ∀ a, (![256 * k.val + 128 * q.val, wOff dir] : Fin 2 → ℕ) a + S128x1024.size a ≤ S2048x2048.size a := by
  revert k q dir; decide
abbrev blkR (k : Dev nD) (q : Fin 2) (dir : Bool) : Rect S2048x2048 :=
  Rect.unit (s := S2048x2048) ![256 * k.val + 128 * q.val, wOff dir] S128x1024.size (blk_inb k q dir)

theorem blk_emb (i : S2048x2048.Idx) : (blkR (chkAt i) (hlfAt i) (dirAt i)).emb (inBlk i) = i := by
  have h0 := (i (0 : Fin 2)).isLt
  have h1 := (i (0 + 1 : Fin 2)).isLt
  change (i (0 : Fin 2)).val < 2048 at h0
  change (i (0 + 1 : Fin 2)).val < 2048 at h1
  funext a
  match a with
  | ⟨0, _⟩ =>
    refine Fin.ext ?_
    show 256 * ((i (0 : Fin 2)).val / 256) + 128 * ((i (0 : Fin 2)).val % 256 / 128) + 1 * ((i (0 : Fin 2)).val % 128) = (i (0 : Fin 2)).val
    omega
  | ⟨1, _⟩ =>
    refine Fin.ext ?_
    show wOff (dirAt i) + 1 * ((i (0 + 1 : Fin 2)).val % 1024) = (i (0 + 1 : Fin 2)).val
    by_cases h : 1024 ≤ (i (0 + 1 : Fin 2)).val
    · rw [show dirAt i = true from decide_eq_true h]; show 1024 + _ = _; omega
    · rw [show dirAt i = false from decide_eq_false h]; show 0 + _ = _; omega

theorem emb_blk (k : Dev nD) (q : Fin 2) (dir : Bool) (x : S128x1024.Idx) :
    chkAt ((blkR k q dir).emb x) = k ∧ hlfAt ((blkR k q dir).emb x) = q ∧ dirAt ((blkR k q dir).emb x) = dir
      ∧ inBlk ((blkR k q dir).emb x) = x := by
  have h0 := (x (0 : Fin 2)).isLt
  have h1 := (x (0 + 1 : Fin 2)).isLt
  change (x (0 : Fin 2)).val < 128 at h0
  change (x (0 + 1 : Fin 2)).val < 1024 at h1
  have e0 : (((blkR k q dir).emb x) (0 : Fin 2)).val = 256 * k.val + 128 * q.val + 1 * (x (0 : Fin 2)).val := rfl
  have e1 : (((blkR k q dir).emb x) (0 + 1 : Fin 2)).val = wOff dir + 1 * (x (0 + 1 : Fin 2)).val := rfl
  have hq := q.isLt
  refine ⟨Fin.ext ?_, Fin.ext ?_, ?_, ?_⟩
  · show (((blkR k q dir).emb x) (0 : Fin 2)).val / 256 = k.val
    rw [e0]; omega
  · show (((blkR k q dir).emb x) (0 : Fin 2)).val % 256 / 128 = q.val
    rw [e0]; omega
  · show decide (1024 ≤ (((blkR k q dir).emb x) (0 + 1 : Fin 2)).val) = dir
    rw [e1]
    cases dir
    · exact decide_eq_false (by show ¬ 1024 ≤ 0 + _; omega)
    · exact decide_eq_true (by show 1024 ≤ 1024 + _; omega)
  · funext a
    match a with
    | ⟨0, _⟩ =>
      refine Fin.ext ?_
      show (((blkR k q dir).emb x) (0 : Fin 2)).val % 128 = (x (0 : Fin 2)).val
      rw [e0]; omega
    | ⟨1, _⟩ =>
      refine Fin.ext ?_
      show (((blkR k q dir).emb x) (0 + 1 : Fin 2)).val % 1024 = (x (0 + 1 : Fin 2)).val
      rw [e1]
      cases dir
      · show (0 + _) % 1024 = _; omega
      · show (1024 + _) % 1024 = _; omega

section Out

variable (X : Dev nD → (cc0_stg0_0 : Ref sig .tc).ty.Contents (Elt F))
  (W : Dev nD → (cc0_stg1_0 : Ref sig .tc).ty.Contents (Elt F))

/-- A block of device `d`'s result: its own as it finished it, another's as it arrived. -/
def blkV (d : Dev nD) (dir : Bool) (q : Fin 2) (k : Dev nD) : FVec F S128x1024 .f32 :=
  if frm dir k = d then finV X W dir q d else wideV (msg X W dir q 7 (frm dir k))

/-- Device `d`'s result. -/
def tgt (d : Dev nD) : (cc0_stg2_0 : Ref sig .tc).ty.Contents (Elt F) :=
  fun i : S2048x2048.Idx => blkV X W d (dirAt i) (hlfAt i) (chkAt i) (inBlk i)

theorem blkV_own (d : Dev nD) (dir : Bool) (q : Fin 2) : blkV X W d dir q (chunk d dir 0) = finV X W dir q d := by
  unfold blkV; exact if_pos (frm_peer dir d)
theorem frm_far : ∀ (dir : Bool) (d : Dev nD) (t : Fin 7), frm dir (chunk d dir (t.val + 1)) = (frm dir)^[t.val + 1] d
    ∧ (frm dir)^[t.val + 1] d ≠ d := by decide
theorem blkV_far (d : Dev nD) (dir : Bool) (q : Fin 2) (t : Fin 7) :
    blkV X W d dir q (chunk d dir (t.val + 1)) = wideV (msg X W dir q (7 + (t.val + 1)) d) := by
  unfold blkV
  rw [(frm_far dir d t).1, if_neg (frm_far dir d t).2, msg_far]

/-- Which elements the first `b` blocks of each strand cover. -/
def covered (d : Dev nD) (b : Cnt) (i : S2048x2048.Idx) : Prop :=
  ∃ t < b (dirAt i) (hlfAt i), chunk d (dirAt i) t = chkAt i

/-- Device `d`'s staged result, the first `b` blocks of each strand filled. -/
def outP (d : Dev nD) (b : Cnt) : sProp 𝕄 :=
  iprop(∃ f : Buf (Elt F) ((d : Thread nD τ).loc cc0_stg2_0), ⌜∀ i, covered d b i → f i = tgt X W d i⌝
    ∗ (((d : Thread nD τ).loc cc0_stg2_0) ↦{fullShare} f))

/-- The staged `x`. -/
def xP (d : Dev nD) : sProp 𝕄 := ((d : Thread nD τ).loc cc0_stg0_0) ↦{fullShare} X d
/-- The staged weights. -/
def wP (d : Dev nD) : sProp 𝕄 := ((d : Thread nD τ).loc cc0_stg1_0) ↦{fullShare} W d

theorem wp_xLoad (d : Dev nD) (off : Fin 2 → ℕ) (h : ∀ a, off a + S256x256.size a ≤ S2048x256.size a)
    (Kt : Vec F S256x256 .f32 → sProp 𝕄) :
    iprop(xP X d ∗ (xP X d -∗ Kt (xV X d off h))) ⊢ WP d (xLoad off h) Kt := by
  unfold xP xLoad Prog.lift xV
  iintro ⟨H, Hk⟩
  iapply (wp_load 𝒱₀ (d : Thread nD τ) none Set.univ (m := xM) (Finset.subset_univ _)) $$ H
  iintro H
  rw [wp_ret]; imodintro
  iapply Hk; iexact H
theorem wp_wLoad (d : Dev nD) (dir : Bool) (Kt : Vec F S256x1024 .f32 → sProp 𝕄) :
    iprop(wP W d ∗ (wP W d -∗ Kt (wV W d dir))) ⊢ WP d (wLoad dir) Kt := by
  unfold wP wLoad Prog.lift wV
  iintro ⟨H, Hk⟩
  iapply (wp_load 𝒱₀ (d : Thread nD τ) none Set.univ (m := wM) (Finset.subset_univ _)) $$ H
  iintro H
  rw [wp_ret]; imodintro
  iapply Hk; iexact H

/-- The contents after a block is stored, under that block. -/
theorem blk_write_in (d : Dev nD) (dir : Bool) (q : Fin 2) (k : Dev nD) (f : (cc0_stg2_0 : Ref sig .tc).ty.Contents (Elt F))
    (w : FVec F S128x1024 .f32) (x : S128x1024.Idx) :
    ((oM).access (blkR k q dir)).write (Elt F) f w Finset.univ ((blkR k q dir).emb x) = w x :=
  View.write_emb_of_mem (v := (oM).access (blkR k q dir)) f w (Finset.mem_univ x)
/-- The contents after a block is stored, elsewhere. -/
theorem blk_write_out (d : Dev nD) (dir : Bool) (q : Fin 2) (k : Dev nD) (f : (cc0_stg2_0 : Ref sig .tc).ty.Contents (Elt F))
    (w : FVec F S128x1024 .f32) (i : S2048x2048.Idx) (hi : ¬ (dirAt i = dir ∧ hlfAt i = q ∧ chkAt i = k)) :
    ((oM).access (blkR k q dir)).write (Elt F) f w Finset.univ i = f i := by
  refine View.write_of_not_mem _ _ _ fun hm => hi ?_
  obtain ⟨x, -, hx⟩ := Finset.mem_map.mp hm
  obtain ⟨e1, e2, e3, -⟩ := emb_blk k q dir x
  rw [← (show (blkR k q dir).emb x = i from hx)]
  exact ⟨e3, e2, e1⟩

/-- A block stored into a result: what is covered agrees with the result still. -/
theorem blk_write (d : Dev nD) (dir : Bool) (q : Fin 2) (b : Cnt) (f : (cc0_stg2_0 : Ref sig .tc).ty.Contents (Elt F))
    (hf : ∀ i, covered d b i → f i = tgt X W d i) (i : S2048x2048.Idx) (hi : covered d (bump b dir q) i) :
    ((oM).access (blkR (chunk d dir (b dir q)) q dir)).write (Elt F) f (blkV X W d dir q (chunk d dir (b dir q)))
      Finset.univ i = tgt X W d i := by
  by_cases hb : dirAt i = dir ∧ hlfAt i = q ∧ chkAt i = chunk d dir (b dir q)
  · obtain ⟨h1, h2, h3⟩ := hb
    have he := blk_emb i
    have ht : tgt X W d i = blkV X W d (dirAt i) (hlfAt i) (chkAt i) (inBlk i) := rfl
    rw [h1, h2, h3] at he ht
    rw [ht]
    refine Eq.trans (congrArg _ he.symm) (blk_write_in d dir q _ f _ (inBlk i))
  · rw [blk_write_out d dir q _ f _ i hb]
    refine hf i ?_
    obtain ⟨t', ht', hc⟩ := hi
    refine ⟨t', ?_, hc⟩
    unfold bump at ht'
    split at ht'
    · rename_i hdq
      rcases Nat.lt_or_ge t' (b (dirAt i) (hlfAt i)) with h4 | h4
      · exact h4
      · exfalso
        refine hb ⟨hdq.1, hdq.2, ?_⟩
        rw [hdq.1, hdq.2] at h4 ht'
        have h6 : t' = b dir q := by omega
        rw [← hc, hdq.1, h6]
    · exact ht'

/-- Storing a block: what it covers is added to. -/
theorem wp_oStore (d : Dev nD) (dir : Bool) (q : Fin 2) (b : Cnt) (t : ℕ) (ht : b dir q = t) (off : Fin 2 → ℕ)
    (hoff : off = ![256 * (chunk d dir t).val + 128 * q.val, wOff dir])
    (h : ∀ a, off a + S128x1024.size a ≤ S2048x2048.size a) (v : FVec F S128x1024 .f32)
    (hv : v = blkV X W d dir q (chunk d dir t)) (Kt : PUnit → sProp 𝕄) :
    iprop(outP X W d b ∗ (outP X W d (bump b dir q) -∗ Kt ⟨⟩))
      ⊢ WP d (oLoad (F := F) off h >>= fun _ => oStore off h v) Kt := by
  subst ht hoff hv
  unfold outP
  simp only [oLoad, oStore, Prog.lift, Prog.bind_op, Prog.bind_ret]
  iintro ⟨⟨%f, %hf, H⟩, Hk⟩
  iapply (wp_load 𝒱₀ (d : Thread nD τ) none Set.univ (m := oM) (Finset.subset_univ _)) $$ H
  iintro H
  iapply (wp_store 𝒱₀ (d : Thread nD τ) none Set.univ (m := oM) (r := blkR (chunk d dir (b dir q)) q dir)
    (Mk := Finset.univ) (Finset.subset_univ _)) $$ H
  iintro H
  rw [wp_ret]; imodintro
  iapply Hk
  iexists _
  isplitr
  rotate_left
  · iexact H
  · ipureintro
    exact blk_write X W d dir q b f hf

/-- Every block filled: the result. -/
theorem outP_full (d : Dev nD) : outP X W d (fun _ _ => 8) ⊢
    (iprop(∃ f : Buf (Elt F) ((d : Thread nD τ).loc cc0_stg2_0), ⌜f = tgt X W d⌝ ∗ (((d : Thread nD τ).loc cc0_stg2_0) ↦{fullShare} f)) : sProp 𝕄) := by
  unfold outP
  iintro ⟨%f, %hf, H⟩
  iexists f
  isplitr
  · ipureintro; exact funext fun i => hf i (chunk_all d (dirAt i) (chkAt i))
  iexact H

theorem outP_none (d : Dev nD) (f : Buf (Elt F) ((d : Thread nD τ).loc cc0_stg2_0)) :
    (((d : Thread nD τ).loc cc0_stg2_0) ↦{fullShare} f : sProp 𝕄) ⊢ outP X W d (fun _ _ => 0) := by
  unfold outP
  iintro H
  iexists f
  isplitr
  · ipureintro; rintro i ⟨t, ht, -⟩; exact absurd ht (Nat.not_lt_zero _)
  iexact H

end Out

end Cert.KernelIdeal.Ring

end
-- ==== Proof.KI.Steps.lean ====
/- The steps of the body: each a rule over the strand it belongs to, and the four of a step together. -/
module

public import proofs.«01_k».proof.Proof.KI.Out

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- One program after another. -/
theorem wp_seq {α β : Type} (d : Dev nD) (p : Prog (Eff F) α) (k : α → Prog (Eff F) β) (Kt : β → sProp 𝕄) :
    WP d p (fun a => WP d (k a) Kt) ⊢ WP d (p >>= k) Kt := by
  show _ ⊢ wp _ _ _ (p >>= k) Kt
  rw [wp_bind]
theorem wp_pure {α : Type} (d : Dev nD) (a : α) (Kt : α → sProp 𝕄) : Kt a ⊢ WP d (pure a : Prog (Eff F) α) Kt := by
  rw [Prog.pure_eq_ret]
  show _ ⊢ wp _ _ _ (Prog.ret a) Kt
  rw [wp_ret]
  iintro H
  imodintro; iexact H

section Steps

variable (X : Dev nD → (cc0_stg0_0 : Ref sig .tc).ty.Contents (Elt F))
  (W : Dev nD → (cc0_stg1_0 : Ref sig .tc).ty.Contents (Elt F)) (K : Dev nD × CI → ℕ)

/-- A step's product. -/
theorem wp_localP (d : Dev nD) (s : Fin 7) (dir : Bool) (Kt : FVec F S256x1024 .f32 → sProp 𝕄) :
    iprop(xP X d ∗ wP W d ∗ ((xP X d ∗ wP W d) -∗ Kt (locV X W d s dir))) ⊢ WP d (localP d s dir) Kt := by
  unfold localP locV
  iintro ⟨Hx, Hw, Hk⟩
  iapply (wp_seq d)
  iapply (wp_xLoad X d)
  isplitl [Hx]; · iexact Hx
  iintro Hx
  iapply (wp_seq d)
  iapply (wp_wLoad W d)
  isplitl [Hw]; · iexact Hw
  iintro Hw
  iapply (wp_pure d)
  iapply Hk
  isplitl [Hx]; · iexact Hx
  iexact Hw

variable (d : Dev nD) (dir : Bool) (q : Fin 2)

/-- A slot between its arrival and its departure, taken out of what the device holds of its strand. -/
theorem st_slot (n : ℕ) (v : Vec F S1x128x1024 .bf16) :
    St d dir q n v ⊢ iprop(slotP d dir q (sl n) fullShare v ∗ (∀ w, slotP d dir q (sl n) fullShare w -∗ St d dir q n w)) := by
  unfold St
  iintro ⟨H1, H2, H3, H4, H5⟩
  isplitl [H4]; · iexact H4
  iintro %w H4
  isplitl [H1]; · iexact H1
  isplitl [H2]; · iexact H2
  isplitl [H3]; · iexact H3
  isplitl [H4]; · iexact H4
  iexact H5

/-- A reduce-scatter step. -/
theorem wp_redP (s : ℕ) (hs : s < 6) (c : Cnt) (hc : ∀ dir' q', s < c dir' q') (hcn : c dir q = s + 1)
    (l : FVec F S256x1024 .f32) (hl : l = locV X W d (st7 s) dir) (Kt : PUnit → sProp 𝕄) :
    iprop(Ctx X W K ∗ owesE d (owed d c) ∗ Sent d dir q X W s
        ∗ ((owesE d (owed d (bump c dir q)) ∗ Sent d dir q X W (s + 1)) -∗ Kt ⟨⟩))
      ⊢ WP d (redP d dir q s l) Kt := by
  subst hl
  unfold redP
  iintro ⟨#Hctx, Ho, Hs, Hk⟩
  iapply (wp_waits X W K d dir q s (by omega) c hc)
  isplitr; · iexact Hctx
  isplitl [Ho]; · iexact Ho
  isplitl [Hs]; · iexact Hs
  iintro ⟨Ho, Hs⟩
  ihave Hs2 := (st_slot d dir q (s + 1) _) $$ Hs
  icases Hs2 with ⟨Hsl, Hs⟩
  iapply (wp_seq d)
  iapply (wp_sLoad d dir q (sl (s + 1)) fullShare)
  isplitl [Hsl]; · iexact Hsl
  iintro Hsl
  iapply (wp_seq d)
  iapply (wp_sLoad d dir q (sl (s + 1)) fullShare)
  isplitl [Hsl]; · iexact Hsl
  iintro Hsl
  iapply (wp_seq d)
  iapply (wp_sStore d dir q (sl (s + 1)))
  isplitl [Hsl]; · iexact Hsl
  iintro Hsl
  rw [← msg_red X W dir q s hs d]
  ihave Hs := Hs $$ %_ Hsl
  iapply (wp_copy X W K d dir q (s + 1) (by omega) c hcn)
  isplitr; · iexact Hctx
  isplitl [Ho]; · iexact Ho
  isplitl [Hs]; · iexact Hs
  iexact Hk

/-- The last reduce-scatter step: the device's own block stored. -/
theorem wp_actP (c : Cnt) (hc : ∀ dir' q', 6 < c dir' q') (hcn : c dir q = 7) (b : Cnt) (hb : b dir q = 0)
    (Kt : PUnit → sProp 𝕄) :
    iprop(Ctx X W K ∗ owesE d (owed d c) ∗ Sent d dir q X W 6 ∗ outP X W d b
        ∗ ((owesE d (owed d (bump c dir q)) ∗ Sent d dir q X W 7 ∗ outP X W d (bump b dir q)) -∗ Kt ⟨⟩))
      ⊢ WP d (actP d dir q (locV X W d 6 dir)) Kt := by
  unfold actP
  iintro ⟨#Hctx, Ho, Hs, Hout, Hk⟩
  iapply (wp_waits X W K d dir q 6 (by omega) c hc)
  isplitr; · iexact Hctx
  isplitl [Ho]; · iexact Ho
  isplitl [Hs]; · iexact Hs
  iintro ⟨Ho, Hs⟩
  ihave Hs2 := (st_slot d dir q 7 _) $$ Hs
  icases Hs2 with ⟨Hsl, Hs⟩
  iapply (wp_seq d)
  iapply (wp_sLoad d dir q (sl 7) fullShare)
  isplitl [Hsl]; · iexact Hsl
  iintro Hsl
  rw [← bind_assoc]
  iapply (wp_seq d)
  iapply (wp_oStore X W d dir q b 0 hb _ (oOff_eq d q dir) (oOff_inb d q dir) _ (blkV_own X W d dir q).symm)
  isplitl [Hout]; · iexact Hout
  iintro Hout
  iapply (wp_seq d)
  iapply (wp_sLoad d dir q (sl 7) fullShare)
  isplitl [Hsl]; · iexact Hsl
  iintro Hsl
  iapply (wp_seq d)
  iapply (wp_sStore d dir q (sl 7))
  isplitl [Hsl]; · iexact Hsl
  iintro Hsl
  ihave Hs := Hs $$ %_ Hsl
  iapply (wp_copy X W K d dir q 7 (by omega) c hcn)
  isplitr; · iexact Hctx
  isplitl [Ho]; · iexact Ho
  isplitl [Hs]
  · rw [msg_act X W dir q d]; iexact Hs
  iintro ⟨Ho, Hs⟩
  iapply Hk
  isplitl [Ho]; · iexact Ho
  isplitl [Hs]; · iexact Hs
  iexact Hout

/-- A gathered block stored. -/
theorem wp_putP (t : Fin 7) (b : Cnt) (hb : b dir q = t.val + 1) (sh : PosShare TreeShare) (Kt : PUnit → sProp 𝕄) :
    iprop(slotP d dir q (sl t.val) sh (msg X W dir q (7 + (t.val + 1)) d) ∗ outP X W d b
        ∗ ((slotP d dir q (sl t.val) sh (msg X W dir q (7 + (t.val + 1)) d) ∗ outP X W d (bump b dir q)) -∗ Kt ⟨⟩))
      ⊢ WP d (putP d dir q t) Kt := by
  unfold putP
  iintro ⟨Hsl, Hout, Hk⟩
  iapply (wp_seq d)
  iapply (wp_sLoad d dir q (sl t.val) sh)
  isplitl [Hsl]; · iexact Hsl
  iintro Hsl
  iapply (wp_oStore X W d dir q b (t.val + 1) hb _ (gOff_eq d t q dir) (gOff_inb d t q dir) _ (blkV_far X W d dir q t).symm)
  isplitl [Hout]; · iexact Hout
  iintro Hout
  iapply Hk
  isplitl [Hsl]; · iexact Hsl
  iexact Hout

/-- An all-gather step. -/
theorem wp_gatP (t : Fin 7) (ht : t.val < 6) (c : Cnt) (hc : ∀ dir' q', 7 + t.val < c dir' q') (hcn : c dir q = 8 + t.val)
    (b : Cnt) (hb : b dir q = t.val + 1) (Kt : PUnit → sProp 𝕄) :
    iprop(Ctx X W K ∗ owesE d (owed d c) ∗ Sent d dir q X W (7 + t.val) ∗ outP X W d b
        ∗ ((owesE d (owed d (bump c dir q)) ∗ Sent d dir q X W (8 + t.val) ∗ outP X W d (bump b dir q)) -∗ Kt ⟨⟩))
      ⊢ WP d (gatP d dir q t) Kt := by
  unfold gatP
  have e8 : 7 + t.val + 1 = 8 + t.val := by omega
  have hkept : kept d dir q X W (8 + t.val)
      = slotP d dir q (sl t.val) fullShare.left (msg X W dir q (7 + (t.val + 1)) d) := by
    unfold kept
    rw [if_neg (by omega), sl_eq (s := 8 + t.val) (t := t.val) (by omega), show 8 + t.val = 7 + (t.val + 1) from by omega]
  iintro ⟨#Hctx, Ho, Hs, Hout, Hk⟩
  iapply (wp_waits X W K d dir q (7 + t.val) (by omega) c hc)
  isplitr; · iexact Hctx
  isplitl [Ho]; · iexact Ho
  isplitl [Hs]; · iexact Hs
  rw [← msg_gat X W dir q _ (by omega) d, e8]
  iintro ⟨Ho, Hs⟩
  iapply (wp_seq d)
  iapply (wp_copy X W K d dir q (8 + t.val) (by omega) c hcn)
  isplitr; · iexact Hctx
  isplitl [Ho]; · iexact Ho
  isplitl [Hs]; · iexact Hs
  unfold Sent
  rw [hkept]
  iintro ⟨Ho, H1, H2, H3, H4, Hsl, H6⟩
  iapply (wp_putP X W d dir q t b hb)
  isplitl [Hsl]; · iexact Hsl
  isplitl [Hout]; · iexact Hout
  iintro ⟨Hsl, Hout⟩
  iapply Hk
  isplitl [Ho]; · iexact Ho
  isplitr [Hout]
  · isplitl [H1]; · iexact H1
    isplitl [H2]; · iexact H2
    isplitl [H3]; · iexact H3
    isplitl [H4]; · iexact H4
    isplitl [Hsl]; · iexact Hsl
    iexact H6
  iexact Hout

/-- The last all-gather step. -/
theorem wp_endP (c : Cnt) (hc : ∀ dir' q', 13 < c dir' q') (b : Cnt) (hb : b dir q = 7) (Kt : PUnit → sProp 𝕄) :
    iprop(Ctx X W K ∗ owesE d (owed d c) ∗ Sent d dir q X W 13 ∗ outP X W d b
        ∗ ((owesE d (owed d c) ∗ St d dir q 14 (msg X W dir q 14 d) ∗ outP X W d (bump b dir q)) -∗ Kt ⟨⟩))
      ⊢ WP d (endP d dir q) Kt := by
  unfold endP
  have hp : iprop(slotP d dir q (sl 14) fullShare (msg X W dir q 14 d) ∗ outP X W d b
        ∗ ((slotP d dir q (sl 14) fullShare (msg X W dir q 14 d) ∗ outP X W d (bump b dir q)) -∗ Kt ⟨⟩))
      ⊢ WP d (putP d dir q 6) Kt := wp_putP X W d dir q 6 b hb fullShare Kt
  iintro ⟨#Hctx, Ho, Hs, Hout, Hk⟩
  iapply (wp_waits X W K d dir q 13 (by omega) c hc)
  isplitr; · iexact Hctx
  isplitl [Ho]; · iexact Ho
  isplitl [Hs]; · iexact Hs
  rw [← msg_gat X W dir q 13 (by omega) d]
  iintro ⟨Ho, Hs⟩
  ihave Hs2 := (st_slot d dir q 14 _) $$ Hs
  icases Hs2 with ⟨Hsl, Hs⟩
  iapply hp
  isplitl [Hsl]; · iexact Hsl
  isplitl [Hout]; · iexact Hout
  iintro ⟨Hsl, Hout⟩
  ihave Hs := Hs $$ %_ Hsl
  iapply Hk
  isplitl [Ho]; · iexact Ho
  isplitl [Hs]; · iexact Hs
  iexact Hout

/-! ## The four strands together -/

/-- The four strands, between starting step `n` and waiting for it. -/
def Sents (n : ℕ) : sProp 𝕄 :=
  iprop(Sent d false 0 X W n ∗ Sent d true 0 X W n ∗ Sent d false 1 X W n ∗ Sent d true 1 X W n)
/-- The four strands, all steps done. -/
def Ended : sProp 𝕄 :=
  iprop(St d false 0 14 (msg X W false 0 14 d) ∗ St d true 0 14 (msg X W true 0 14 d)
    ∗ St d false 1 14 (msg X W false 1 14 d) ∗ St d true 1 14 (msg X W true 1 14 d))

/-- The counts, all at `k`. -/
abbrev cst (k : ℕ) : Cnt := fun _ _ => k

/-- The counts while the four strands take a step in turn: none below where they began, each where it began until its turn. -/
theorem cst_le (k : ℕ) (dir' : Bool) (q' : Fin 2) :
    k ≤ bump (cst k) false 0 dir' q' ∧ k ≤ bump (bump (cst k) false 0) true 0 dir' q'
      ∧ k ≤ bump (bump (bump (cst k) false 0) true 0) false 1 dir' q' :=
  ⟨le_bump (cst k) false 0 _ _, le_trans (le_bump (cst k) false 0 _ _) (le_bump _ _ _ _ _),
    le_trans (le_trans (le_bump (cst k) false 0 _ _) (le_bump _ true 0 _ _)) (le_bump _ _ _ _ _)⟩
theorem cst_at (k : ℕ) : bump (cst k) false 0 true 0 = k ∧ bump (bump (cst k) false 0) true 0 false 1 = k
    ∧ bump (bump (bump (cst k) false 0) true 0) false 1 true 1 = k := ⟨rfl, rfl, rfl⟩

/-- A reduce-scatter step of the device. -/
theorem wp_redAll (s : Fin 7) (hs : s.val < 6) (Kt : PUnit → sProp 𝕄) :
    iprop(Ctx X W K ∗ owesE d (owed d (cst (s.val + 1))) ∗ Sents X W d s.val ∗ xP X d ∗ wP W d
        ∗ ((owesE d (owed d (cst (s.val + 2))) ∗ Sents X W d (s.val + 1) ∗ xP X d ∗ wP W d) -∗ Kt ⟨⟩))
      ⊢ WP d (redAll d s) Kt := by
  unfold redAll Sents
  have hl := fun dir => show locV X W d s dir = locV X W d (st7 s.val) dir by rw [st7_val]
  have hle := cst_le (s.val + 1)
  have hat := cst_at (s.val + 1)
  iintro ⟨#Hctx, Ho, ⟨Ha, Hb, Hc, Hd⟩, Hx, Hw, Hk⟩
  iapply (wp_seq d)
  iapply (wp_localP X W d s false)
  isplitl [Hx]; · iexact Hx
  isplitl [Hw]; · iexact Hw
  iintro ⟨Hx, Hw⟩
  iapply (wp_seq d)
  iapply (wp_localP X W d s true)
  isplitl [Hx]; · iexact Hx
  isplitl [Hw]; · iexact Hw
  iintro ⟨Hx, Hw⟩
  iapply (wp_seq d)
  iapply (wp_redP X W K d false 0 s.val hs (cst (s.val + 1)) (fun _ _ => Nat.lt_succ_self _) rfl _ (hl false))
  isplitr; · iexact Hctx
  isplitl [Ho]; · iexact Ho
  isplitl [Ha]; · iexact Ha
  iintro ⟨Ho, Ha⟩
  iapply (wp_seq d)
  iapply (wp_redP X W K d true 0 s.val hs _ (fun a b => (hle a b).1) hat.1 _ (hl true))
  isplitr; · iexact Hctx
  isplitl [Ho]; · iexact Ho
  isplitl [Hb]; · iexact Hb
  iintro ⟨Ho, Hb⟩
  iapply (wp_seq d)
  iapply (wp_redP X W K d false 1 s.val hs _ (fun a b => (hle a b).2.1) hat.2.1 _ (hl false))
  isplitr; · iexact Hctx
  isplitl [Ho]; · iexact Ho
  isplitl [Hc]; · iexact Hc
  iintro ⟨Ho, Hc⟩
  iapply (wp_redP X W K d true 1 s.val hs _ (fun a b => (hle a b).2.2) hat.2.2 _ (hl true))
  isplitr; · iexact Hctx
  isplitl [Ho]; · iexact Ho
  isplitl [Hd]; · iexact Hd
  rw [show cst (s.val + 1) = fun _ _ => s.val + 1 from rfl, bump_all (s.val + 1)]
  iintro ⟨Ho, Hd⟩
  iapply Hk
  isplitl [Ho]; · iexact Ho
  isplitr [Hx Hw]
  · isplitl [Ha]; · iexact Ha
    isplitl [Hb]; · iexact Hb
    isplitl [Hc]; · iexact Hc
    iexact Hd
  isplitl [Hx]; · iexact Hx
  iexact Hw

/-- The last reduce-scatter step of the device. -/
theorem wp_actAll (Kt : PUnit → sProp 𝕄) :
    iprop(Ctx X W K ∗ owesE d (owed d (cst 7)) ∗ Sents X W d 6 ∗ xP X d ∗ wP W d ∗ outP X W d (cst 0)
        ∗ ((owesE d (owed d (cst 8)) ∗ Sents X W d 7 ∗ xP X d ∗ wP W d ∗ outP X W d (cst 1)) -∗ Kt ⟨⟩))
      ⊢ WP d (actAll d) Kt := by
  unfold actAll Sents
  have hle := cst_le 7
  have hat := cst_at 7
  have hat0 := cst_at 0
  iintro ⟨#Hctx, Ho, ⟨Ha, Hb, Hc, Hd⟩, Hx, Hw, Hout, Hk⟩
  iapply (wp_seq d)
  iapply (wp_localP X W d 6 false)
  isplitl [Hx]; · iexact Hx
  isplitl [Hw]; · iexact Hw
  iintro ⟨Hx, Hw⟩
  iapply (wp_seq d)
  iapply (wp_localP X W d 6 true)
  isplitl [Hx]; · iexact Hx
  isplitl [Hw]; · iexact Hw
  iintro ⟨Hx, Hw⟩
  iapply (wp_seq d)
  iapply (wp_actP X W K d false 0 (cst 7) (fun _ _ => Nat.lt_succ_self _) rfl (cst 0) rfl)
  isplitr; · iexact Hctx
  isplitl [Ho]; · iexact Ho
  isplitl [Ha]; · iexact Ha
  isplitl [Hout]; · iexact Hout
  iintro ⟨Ho, Ha, Hout⟩
  iapply (wp_seq d)
  iapply (wp_actP X W K d true 0 _ (fun a b => (hle a b).1) hat.1 _ hat0.1)
  isplitr; · iexact Hctx
  isplitl [Ho]; · iexact Ho
  isplitl [Hb]; · iexact Hb
  isplitl [Hout]; · iexact Hout
  iintro ⟨Ho, Hb, Hout⟩
  iapply (wp_seq d)
  iapply (wp_actP X W K d false 1 _ (fun a b => (hle a b).2.1) hat.2.1 _ hat0.2.1)
  isplitr; · iexact Hctx
  isplitl [Ho]; · iexact Ho
  isplitl [Hc]; · iexact Hc
  isplitl [Hout]; · iexact Hout
  iintro ⟨Ho, Hc, Hout⟩
  iapply (wp_actP X W K d true 1 _ (fun a b => (hle a b).2.2) hat.2.2 _ hat0.2.2)
  isplitr; · iexact Hctx
  isplitl [Ho]; · iexact Ho
  isplitl [Hd]; · iexact Hd
  isplitl [Hout]; · iexact Hout
  rw [show cst 7 = fun _ _ => 7 from rfl, bump_all 7, show cst 0 = fun _ _ => 0 from rfl, bump_all 0]
  iintro ⟨Ho, Hd, Hout⟩
  iapply Hk
  isplitl [Ho]; · iexact Ho
  isplitr [Hx Hw Hout]
  · isplitl [Ha]; · iexact Ha
    isplitl [Hb]; · iexact Hb
    isplitl [Hc]; · iexact Hc
    iexact Hd
  isplitl [Hx]; · iexact Hx
  isplitl [Hw]; · iexact Hw
  iexact Hout

/-- An all-gather step of the device. -/
theorem wp_gatAll (t : Fin 7) (ht : t.val < 6) (Kt : PUnit → sProp 𝕄) :
    iprop(Ctx X W K ∗ owesE d (owed d (cst (8 + t.val))) ∗ Sents X W d (7 + t.val) ∗ outP X W d (cst (t.val + 1))
        ∗ ((owesE d (owed d (cst (8 + t.val + 1))) ∗ Sents X W d (8 + t.val) ∗ outP X W d (cst (t.val + 1 + 1))) -∗ Kt ⟨⟩))
      ⊢ WP d (gatAll d t) Kt := by
  unfold gatAll Sents
  have hle := cst_le (8 + t.val)
  have hat := cst_at (8 + t.val)
  have hat0 := cst_at (t.val + 1)
  have h78 : 7 + t.val < 8 + t.val := by omega
  iintro ⟨#Hctx, Ho, ⟨Ha, Hb, Hc, Hd⟩, Hout, Hk⟩
  iapply (wp_seq d)
  iapply (wp_gatP X W K d false 0 t ht (cst (8 + t.val)) (fun _ _ => h78) rfl (cst (t.val + 1)) rfl)
  isplitr; · iexact Hctx
  isplitl [Ho]; · iexact Ho
  isplitl [Ha]; · iexact Ha
  isplitl [Hout]; · iexact Hout
  iintro ⟨Ho, Ha, Hout⟩
  iapply (wp_seq d)
  iapply (wp_gatP X W K d true 0 t ht _ (fun a b => lt_of_lt_of_le h78 (hle a b).1) hat.1 _ hat0.1)
  isplitr; · iexact Hctx
  isplitl [Ho]; · iexact Ho
  isplitl [Hb]; · iexact Hb
  isplitl [Hout]; · iexact Hout
  iintro ⟨Ho, Hb, Hout⟩
  iapply (wp_seq d)
  iapply (wp_gatP X W K d false 1 t ht _ (fun a b => lt_of_lt_of_le h78 (hle a b).2.1) hat.2.1 _ hat0.2.1)
  isplitr; · iexact Hctx
  isplitl [Ho]; · iexact Ho
  isplitl [Hc]; · iexact Hc
  isplitl [Hout]; · iexact Hout
  iintro ⟨Ho, Hc, Hout⟩
  iapply (wp_gatP X W K d true 1 t ht _ (fun a b => lt_of_lt_of_le h78 (hle a b).2.2) hat.2.2 _ hat0.2.2)
  isplitr; · iexact Hctx
  isplitl [Ho]; · iexact Ho
  isplitl [Hd]; · iexact Hd
  isplitl [Hout]; · iexact Hout
  rw [show cst (8 + t.val) = fun _ _ => 8 + t.val from rfl, bump_all (8 + t.val),
    show cst (t.val + 1) = fun _ _ => t.val + 1 from rfl, bump_all (t.val + 1)]
  iintro ⟨Ho, Hd, Hout⟩
  iapply Hk
  isplitl [Ho]; · iexact Ho
  isplitr [Hout]
  · isplitl [Ha]; · iexact Ha
    isplitl [Hb]; · iexact Hb
    isplitl [Hc]; · iexact Hc
    iexact Hd
  iexact Hout

/-- The end of the device's body. -/
theorem wp_endAll (Kt : PUnit → sProp 𝕄) :
    iprop(Ctx X W K ∗ owesE d (owed d (cst 14)) ∗ Sents X W d 13 ∗ outP X W d (cst 7)
        ∗ ((owesE d (owed d (cst 14)) ∗ Ended X W d ∗ outP X W d (cst 8)) -∗ Kt ⟨⟩))
      ⊢ WP d (endP d false 0 >>= fun _ => endP d true 0 >>= fun _ => endP d false 1 >>= fun _ => endP d true 1) Kt := by
  unfold Sents Ended
  have hat0 := cst_at 7
  have hlt : ∀ (dir' : Bool) (q' : Fin 2), 13 < cst 14 dir' q' := fun _ _ => Nat.lt_succ_self _
  iintro ⟨#Hctx, Ho, ⟨Ha, Hb, Hc, Hd⟩, Hout, Hk⟩
  iapply (wp_seq d)
  iapply (wp_endP X W K d false 0 (cst 14) hlt (cst 7) rfl)
  isplitr; · iexact Hctx
  isplitl [Ho]; · iexact Ho
  isplitl [Ha]; · iexact Ha
  isplitl [Hout]; · iexact Hout
  iintro ⟨Ho, Ha, Hout⟩
  iapply (wp_seq d)
  iapply (wp_endP X W K d true 0 (cst 14) hlt _ hat0.1)
  isplitr; · iexact Hctx
  isplitl [Ho]; · iexact Ho
  isplitl [Hb]; · iexact Hb
  isplitl [Hout]; · iexact Hout
  iintro ⟨Ho, Hb, Hout⟩
  iapply (wp_seq d)
  iapply (wp_endP X W K d false 1 (cst 14) hlt _ hat0.2.1)
  isplitr; · iexact Hctx
  isplitl [Ho]; · iexact Ho
  isplitl [Hc]; · iexact Hc
  isplitl [Hout]; · iexact Hout
  iintro ⟨Ho, Hc, Hout⟩
  iapply (wp_endP X W K d true 1 (cst 14) hlt _ hat0.2.2)
  isplitr; · iexact Hctx
  isplitl [Ho]; · iexact Ho
  isplitl [Hd]; · iexact Hd
  isplitl [Hout]; · iexact Hout
  rw [show cst 7 = fun _ _ => 7 from rfl, bump_all 7]
  iintro ⟨Ho, Hd, Hout⟩
  iapply Hk
  isplitl [Ho]; · iexact Ho
  isplitr [Hout]
  · isplitl [Ha]; · iexact Ha
    isplitl [Hb]; · iexact Hb
    isplitl [Hc]; · iexact Hc
    iexact Hd
  iexact Hout

end Steps

end Cert.KernelIdeal.Ring

end
-- ==== Proof.KI.Whole.lean ====
/- The ring's buffers: split into slots at the start, the first slot filled, joined again at the end. -/
module

public import proofs.«01_k».proof.Proof.KI.Steps
public import Idealize.ShloMosaic.Lib.Pipeline.Value

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The elements of a slot -/

theorem mem_slot (k : Fin 8) (q : Fin 2) (i : S8x256x1024.Idx) :
    i ∈ (slotR k q).set ↔ (i (0 : Fin 3)).val = k.val ∧ (i (1 : Fin 3)).val / 128 = q.val := by
  have h2 := (i (2 : Fin 3)).isLt
  change (i (2 : Fin 3)).val < 1024 at h2
  rw [LoadRect.mem_set]
  constructor
  · intro h
    obtain ⟨j0, hj0, e0⟩ := h (0 : Fin 3)
    obtain ⟨j1, hj1, e1⟩ := h (1 : Fin 3)
    change j0 < 1 at hj0
    change j1 < 128 at hj1
    change (i (0 : Fin 3)).val = k.val + 1 * j0 at e0
    change (i (1 : Fin 3)).val = 128 * q.val + 1 * j1 at e1
    omega
  · rintro ⟨h0, h1⟩ a
    match a with
    | ⟨0, _⟩ => exact ⟨0, Nat.one_pos, by show (i (0 : Fin 3)).val = k.val + 1 * 0; omega⟩
    | ⟨1, _⟩ => exact ⟨(i (1 : Fin 3)).val % 128, Nat.mod_lt _ (Nat.succ_pos 127),
        by show (i (1 : Fin 3)).val = 128 * q.val + 1 * ((i (1 : Fin 3)).val % 128); omega⟩
    | ⟨2, _⟩ => exact ⟨(i (2 : Fin 3)).val, h2, by show (i (2 : Fin 3)).val = 0 + 1 * (i (2 : Fin 3)).val; omega⟩

/-- The rows of the first slot as the body fills it. -/
abbrev rect0 : Rect S8x256x1024 := Rect.unit (s := S8x256x1024) ![0, 0, 0] S1x256x1024.size inb_S8x256x1024_S1x256x1024_0_0_0

/-- The elements of a slot. -/
def rowS (k : Fin 8) : Finset S8x256x1024.Idx := (slotR k 0).set ∪ (slotR k 1).set

theorem mem_row (k : Fin 8) (i : S8x256x1024.Idx) : i ∈ rowS k ↔ (i (0 : Fin 3)).val = k.val := by
  have h1 := (i (1 : Fin 3)).isLt
  change (i (1 : Fin 3)).val < 256 at h1
  unfold rowS
  rw [Finset.mem_union, mem_slot, mem_slot]
  show (_ ∧ _ = 0) ∨ (_ ∧ _ = 1) ↔ _
  omega

theorem halves_disjoint (k : Fin 8) : Disjoint (slotR k 0).set (slotR k 1).set :=
  Finset.disjoint_left.mpr fun i h h' => by
    rw [mem_slot] at h h'
    exact absurd (h.2.symm.trans h'.2) (by decide)

theorem rect0_sub : rect0.set ⊆ rowS 0 := fun i hi => by
  rw [LoadRect.mem_set] at hi
  obtain ⟨j, hj, e⟩ := hi (0 : Fin 3)
  change j < 1 at hj
  change (i (0 : Fin 3)).val = 0 + 1 * j at e
  rw [mem_row]; show _ = 0; omega

/-- A buffer's elements, as the buffer names them. -/
abbrev up (dir : Bool) (S : Finset S8x256x1024.Idx) : Finset (bM dir).view.ty.Idx := (bM dir).view.setOn S

theorem up_union (dir : Bool) (S T : Finset S8x256x1024.Idx) : up dir (S ∪ T) = up dir S ∪ up dir T := by
  cases dir <;> exact Finset.map_union _ _
theorem up_disjoint (dir : Bool) {S T : Finset S8x256x1024.Idx} (h : Disjoint S T) : Disjoint (up dir S) (up dir T) :=
  (Finset.disjoint_map _).mpr h
theorem slot_up (dir : Bool) (k : Fin 8) (q : Fin 2) : (slotM dir k q).view.set = up dir (slotR k q).set := by
  rw [slot_set]; exact View.set_slice _ _

/-- Eight steps' slots make up the buffer. -/
theorem rows_cover (dir : Bool) (n : ℕ) :
    (Finset.Ico n (n + 8)).biUnion (fun j => up dir (rowS (sl j))) = Finset.univ := by
  rw [Finset.eq_univ_iff_forall]
  intro i
  have hi : i ∈ (bM dir).view.set := (bM_whole dir).set_eq_univ ▸ Finset.mem_univ i
  obtain ⟨x, -, rfl⟩ := Finset.mem_map.mp hi
  have h0 := (x (0 : Fin 3)).isLt
  change (x (0 : Fin 3)).val < 8 at h0
  refine Finset.mem_biUnion.mpr ⟨n + ((x (0 : Fin 3)).val + 8 - n % 8) % 8, Finset.mem_Ico.mpr ⟨by omega, by omega⟩, ?_⟩
  refine Finset.mem_map.mpr ⟨x, ?_, rfl⟩
  rw [mem_row]
  show _ = (n + ((x (0 : Fin 3)).val + 8 - n % 8) % 8) % 8
  omega

theorem rows_disjoint (dir : Bool) (n : ℕ) : ∀ s ∈ Finset.Ico n (n + 8), ∀ t ∈ Finset.Ico n (n + 8), s ≠ t →
    Disjoint (up dir (rowS (sl s))) (up dir (rowS (sl t))) := by
  intro s hs t ht hst
  rw [Finset.mem_Ico] at hs ht
  refine up_disjoint dir (Finset.disjoint_left.mpr fun i h h' => hst ?_)
  rw [mem_row] at h h'
  have : s % 8 = t % 8 := h.symm.trans h'
  omega

/-! ## Splitting and joining -/

/-- A family, each member exchanged for another. -/
theorem sep_each {I : Type} (S : Finset I) (Φ Ψ : I → sProp 𝕄) (h : ∀ i ∈ S, Φ i ⊢ Ψ i) : bigSep S Φ ⊢ bigSep S Ψ :=
  bigSep_mono h

/-- A slot of device `d`, both halves, at contents `f`. -/
def rowP (d : Dev nD) (dir : Bool) (k : Fin 8) (f : Buf (Elt F) ((bM dir).view.loc (d : Thread nD τ))) : sProp 𝕄 :=
  (bM dir).view.loc (d : Thread nD τ) ↦[up dir (rowS k)]{fullShare} f
/-- A direction's buffer on device `d`. -/
def bufP (d : Dev nD) (dir : Bool) : sProp 𝕄 :=
  iprop(∃ f : Buf (Elt F) ((bM dir).view.loc (d : Thread nD τ)), (bM dir).view.loc (d : Thread nD τ) ↦{fullShare} f)

/-- What half `q` of slot `k` reads of contents. -/
abbrev slotRead (dir : Bool) (k : Fin 8) (q : Fin 2) (f : (bM dir).view.ty.Contents (Elt F)) : Vec F S1x128x1024 .bf16 :=
  (bM dir).view.readAt (Elt F) (slotR k q).toLoadRect f

/-- A slot is its two halves. -/
theorem row_split (d : Dev nD) (dir : Bool) (k : Fin 8) (f : Buf (Elt F) ((bM dir).view.loc (d : Thread nD τ))) :
    rowP d dir k f ⊢ iprop(slotP d dir 0 k fullShare (slotRead dir k 0 f) ∗ slotP d dir 1 k fullShare (slotRead dir k 1 f)) := by
  unfold rowP slotP rowS
  rw [up_union, slot_up, slot_up]
  iintro H
  ihave H' := (pointsTo_union (up_disjoint dir (halves_disjoint k))).1 $$ H
  icases H' with ⟨H1, H2⟩
  isplitl [H1]
  · iexists f; isplitr; · (ipureintro; rfl)
    iexact H1
  · iexists f; isplitr; · (ipureintro; rfl)
    iexact H2
theorem row_join (d : Dev nD) (dir : Bool) (k : Fin 8) :
    iprop(anyP d dir 0 k ∗ anyP d dir 1 k) ⊢ (iprop(∃ f, rowP d dir k f) : sProp 𝕄) := by
  unfold anyP rowP slotP rowS
  rw [up_union, slot_up, slot_up]
  iintro ⟨⟨%v, %f, -, H1⟩, ⟨%w, %g, -, H2⟩⟩
  iexists _
  iapply (pointsTo_join (up_disjoint dir (halves_disjoint k)))
  isplitl [H1]; · iexact H1
  iexact H2

theorem row_any (d : Dev nD) (dir : Bool) (k : Fin 8) (f : Buf (Elt F) ((bM dir).view.loc (d : Thread nD τ))) :
    rowP d dir k f ⊢ iprop(anyP d dir 0 k ∗ anyP d dir 1 k) := by
  unfold anyP
  iintro H
  ihave H' := (row_split d dir k f) $$ H
  icases H' with ⟨H1, H2⟩
  isplitl [H1]; · (iexists _; iexact H1)
  iexists _; iexact H2

/-- The buffer of device `d`: the first slot, and the others. -/
theorem buf_split (d : Dev nD) (dir : Bool) : bufP d dir ⊢ (iprop((∃ f, rowP d dir 0 f)
    ∗ (bigSep (Finset.Ico 1 8) fun j => anyP d dir 0 (sl j)) ∗ (bigSep (Finset.Ico 1 8) fun j => anyP d dir 1 (sl j))) : sProp 𝕄) := by
  unfold bufP
  iintro ⟨%f, H⟩
  ihave H1 := (Entails.of_eq (show ((bM dir).view.loc (d : Thread nD τ) ↦{fullShare} f : sProp 𝕄)
      = iprop(rowP d dir (sl 0) f ∗ bigSep (Finset.Ico 1 8) fun j => rowP d dir (sl j) f) by
    rw [show ((bM dir).view.loc (d : Thread nD τ) ↦{fullShare} f : sProp 𝕄)
      = ((bM dir).view.loc (d : Thread nD τ) ↦[Finset.univ]{fullShare} f) from rfl, ← rows_cover dir 0,
      pointsTo_biUnion _ _ (rows_disjoint dir 0), ico_insert (show 0 < 0 + 8 by decide), sep_put _ _ _ (ico_notMem 0 (0 + 8))]
    rfl)) $$ H
  icases H1 with ⟨H0, H1⟩
  isplitl [H0]; · (iexists f; iexact H0)
  ihave H2 := (sep_each (Finset.Ico 1 8) _ _ fun j _ => row_any d dir (sl j) f) $$ H1
  ihave H3 := (Entails.of_eq (bigSep_sep' (Finset.Ico 1 8) (fun j => anyP (F := F) d dir 0 (sl j)) (fun j => anyP d dir 1 (sl j)))) $$ H2
  iexact H3

/-- The slots, whatever they hold: the buffer. -/
theorem buf_join (d : Dev nD) (dir : Bool) (n : ℕ) :
    iprop((bigSep (Finset.Ico n (n + 8)) fun j => anyP d dir 0 (sl j)) ∗ (bigSep (Finset.Ico n (n + 8)) fun j => anyP d dir 1 (sl j)))
      ⊢ (bufP d dir : sProp 𝕄) := by
  iintro H
  ihave H1 := (Entails.of_eq (bigSep_sep' (Finset.Ico n (n + 8)) (fun j => anyP (F := F) d dir 0 (sl j)) (fun j => anyP d dir 1 (sl j))).symm) $$ H
  ihave H2 := (sep_each (Finset.Ico n (n + 8)) _ _ fun j _ => row_join d dir (sl j)) $$ H1
  haveI : Nonempty (Buf (Elt F) ((bM dir).view.loc (d : Thread nD τ))) := ⟨fun _ => Classical.choice inferInstance⟩
  ihave H3 := (bigSep_exists_pi (Finset.Ico n (n + 8)) (fun j f => rowP d dir (sl j) f)) $$ H2
  icases H3 with ⟨%fs, H3⟩
  unfold rowP
  ihave H4 := (pointsTo_biUnion_join _ _ fs (fs 0) (rows_disjoint dir n)) $$ H3
  rw [rows_cover dir n]
  icases H4 with ⟨%g, -, H4⟩
  unfold bufP
  iexists g
  iexact H4

/-! ## The first slot filled -/

/-- The first slot's halves, read after the body has stored the product. -/
theorem init_read (dir : Bool) (q : Fin 2) (f : (bM dir).view.ty.Contents (Elt F)) (l : FVec F S256x1024 .f32) :
    slotRead dir 0 q (((bM dir).access rect0).write (Elt F) f (initV l) Finset.univ) = slotV (narrowV (halfV q l)) := by
  funext x
  have h0 := (x (0 : Fin 3)).isLt
  have h1 := (x (1 : Fin 3)).isLt
  change (x (0 : Fin 3)).val < 1 at h0
  change (x (1 : Fin 3)).val < 128 at h1
  have hq := q.isLt
  let y : S1x256x1024.Idx := fun a => match a with
    | ⟨0, _⟩ => ⟨0, Nat.one_pos⟩
    | ⟨1, _⟩ => ⟨128 * q.val + (x (1 : Fin 3)).val, by show _ < 256; omega⟩
    | ⟨2, _⟩ => x (2 : Fin 3)
  have hy : (slotR 0 q).emb x = rect0.emb y := funext fun a => Fin.ext (match a with
    | ⟨0, _⟩ => by show 0 + 1 * (x (0 : Fin 3)).val = 0 + 1 * 0; omega
    | ⟨1, _⟩ => by show 128 * q.val + 1 * (x (1 : Fin 3)).val = 0 + 1 * (128 * q.val + (x (1 : Fin 3)).val); omega
    | ⟨2, _⟩ => rfl)
  have hl : slotRead dir 0 q (((bM dir).access rect0).write (Elt F) f (initV l) Finset.univ) x
      = (bM dir).view.read (Elt F) (((bM dir).access rect0).write (Elt F) f (initV l) Finset.univ) ((slotR 0 q).emb x) := rfl
  rw [hl, hy]
  have hw := View.read_write_of_mem (v := (bM dir).access rect0) f (initV l) (Finset.mem_univ y)
  refine (show _ = _ from hw).trans ?_
  unfold initV slotV narrowV halfV
  refine (shapeCast_addUnit_apply ![256, 1024] _ _ y).trans (Eq.trans ?_ (shapeCast_addUnit_apply ![128, 1024] _ _ x).symm)
  refine congrArg (fun i => (truncf .bf16 l bitsLt_bf16_f32 : FVec F S256x1024 .bf16) i) (?_ : (fun a => y a.succ : S256x1024.Idx) = _)
  exact funext fun a => match a with
    | ⟨0, _⟩ => rfl
    | ⟨1, _⟩ => Fin.ext (by show (x (2 : Fin 3)).val = 0 + (x (2 : Fin 3)).val; omega)

variable (X : Dev nD → (cc0_stg0_0 : Ref sig .tc).ty.Contents (Elt F))
  (W : Dev nD → (cc0_stg1_0 : Ref sig .tc).ty.Contents (Elt F))

/-- Filling the first slot of a direction. -/
theorem wp_initP (d : Dev nD) (dir : Bool) (Kt : PUnit → sProp 𝕄) :
    iprop((∃ f, rowP d dir 0 f) ∗ xP X d ∗ wP W d
        ∗ ((slotP d dir 0 (sl 0) fullShare (msg X W dir 0 0 d) ∗ slotP d dir 1 (sl 0) fullShare (msg X W dir 1 0 d)
            ∗ xP X d ∗ wP W d) -∗ Kt ⟨⟩))
      ⊢ WP d (initP d dir) Kt := by
  unfold initP
  iintro ⟨⟨%f, Hr⟩, Hx, Hw, Hk⟩
  iapply (wp_seq d)
  iapply (wp_xLoad X d)
  isplitl [Hx]; · iexact Hx
  iintro Hx
  iapply (wp_seq d)
  iapply (wp_wLoad W d)
  isplitl [Hw]; · iexact Hw
  iintro Hw
  unfold rowP
  simp only [Prog.lift, Prog.bind_op, Prog.bind_ret]
  iapply (wp_load 𝒱₀ (d : Thread nD τ) none Set.univ (m := bM dir) (S := up dir (rowS 0)) (r := rect0.toLoadRect) (Finset.map_subset_map.mpr rect0_sub)) $$ Hr
  iintro Hr
  iapply (wp_store 𝒱₀ (d : Thread nD τ) none Set.univ (m := bM dir) (r := rect0) (Mk := Finset.univ)
    (S := up dir (rowS 0)) ((subset_of_eq (View.set_slice _ _)).trans (Finset.map_subset_map.mpr rect0_sub))) $$ Hr
  iintro Hr
  rw [wp_ret]; imodintro
  iapply Hk
  have hrow : (((bM dir).access rect0).loc (d : Thread nD τ) ↦[up dir (rowS 0)]{fullShare}
        ((bM dir).access rect0).write (Elt F) f (initV (prodV (xV X d (k0_off1 d) (k0_off1_inb d)) (wV W d dir))) Finset.univ : sProp 𝕄)
      ⊢ _ := row_split d dir 0 (((bM dir).access rect0).write (Elt F) f (initV (ownV X W d dir)) Finset.univ)
  have hslot : ∀ q : Fin 2, slotP d dir q 0 fullShare
        (slotRead dir 0 q (((bM dir).access rect0).write (Elt F) f (initV (ownV X W d dir)) Finset.univ))
      ⊢ (slotP d dir q (sl 0) fullShare (msg X W dir q 0 d) : sProp 𝕄) := fun q =>
    Entails.of_eq (congrArg (fun v => slotP (F := F) d dir q 0 fullShare v) ((init_read dir q f (ownV X W d dir)).trans (by rw [msg])))
  ihave Hs := hrow $$ Hr
  icases Hs with ⟨H0, H1⟩
  isplitl [H0]
  · iapply (hslot 0) $$ H0
  isplitl [H1]
  · iapply (hslot 1) $$ H1
  isplitl [Hx]; · iexact Hx
  iexact Hw

end Cert.KernelIdeal.Ring

end
-- ==== Proof.KI.Eq.lean ====
/- The printed body is the body written step by step. -/
module

public import proofs.«01_k».proof.Proof.KI.Prog

@[expose] public section

noncomputable section

namespace Cert.KernelIdeal.Ring

open Idealize.ShloMosaic Idealize.SL.Sem Cert.KernelIdeal Cert.KernelIdeal.Gen

variable {F : FTy → Type} [FloatOps F]

theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    cc0_scratch2 cc0_scratch3 cc0_scratch4 cc0_scratch5 = bodyP := by
  chain_rfl

end Cert.KernelIdeal.Ring

end
-- ==== Proof.KI.Body.lean ====
/- The body of a device, from what the launch deals it to what it gives back. -/
module

public import proofs.«01_k».proof.Proof.KI.Whole
public import proofs.«01_k».proof.Proof.KI.Eq

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Families over a device's cells -/

/-- A device's copies' cells. -/
abbrev OI := Bool × Bool × Fin 2 × Fin 8

/-- A family beside something every device knows. -/
theorem sep_under {I : Type} [DecidableEq I] (S : Finset I) (R : sProp 𝕄) [BI.Persistent R] (Φ Ψ : I → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem sep_fin2 (Φ : Fin 2 → sProp 𝕄) : bigSep Finset.univ Φ = iprop(Φ 0 ∗ Φ 1) :=
  bigSep_univ_eq_bigSepL [0, 1] (by decide) (by decide) Φ
theorem sep_bool (Φ : Bool → sProp 𝕄) : bigSep Finset.univ Φ = iprop(Φ false ∗ Φ true) :=
  bigSep_univ_eq_bigSepL [false, true] (by decide) (by decide) Φ
theorem sep_slots (Φ : Fin 8 → sProp 𝕄) : bigSep Finset.univ Φ = bigSep (Finset.range 8) fun a => Φ (sl a) :=
  (bigSep_univ_eq_bigSepL [0, 1, 2, 3, 4, 5, 6, 7] (by decide) (by decide) Φ).trans
    (bigSep_eq_bigSepL_of_eq [0, 1, 2, 3, 4, 5, 6, 7] (by decide) (by decide) (fun a => Φ (sl a))).symm
/-- The slot after a slot. -/
def next : Fin 8 ≃ Fin 8 where
  toFun k := k + 1
  invFun k := k - 1
  left_inv := by decide
  right_inv := by decide
theorem sep_slots1 (Φ : Fin 8 → sProp 𝕄) : bigSep Finset.univ Φ = bigSep (Finset.range 8) fun a => Φ (sl (a + 1)) := by
  rw [bigSep_univ_equiv next Φ, sep_slots]
  exact bigSep_congr fun a _ => congrArg Φ (Fin.ext (by show (a % 8 + 1) % 8 = (a + 1) % 8; omega))
theorem sep_option {I : Type} [DecidableEq I] [Fintype I] (Φ : Option I → sProp 𝕄) :
    bigSep Finset.univ Φ = iprop(Φ none ∗ bigSep Finset.univ fun i => Φ (some i)) := by
  rw [show (Finset.univ : Finset (Option I)) = insert none (Finset.univ.map Function.Embedding.some) from by
    ext x; cases x <;> simp, sep_put _ _ _ (by simp), bigSep_map]
  rfl

theorem eight_there (P1 P2 P3 P4 P5 P6 P7 P8 : sProp 𝕄) :
    iprop(((P1 ∗ P2) ∗ (P3 ∗ P4)) ∗ ((P5 ∗ P6) ∗ (P7 ∗ P8))) ⊢ iprop((P1 ∗ P3) ∗ (P5 ∗ P7) ∗ (P2 ∗ P4) ∗ (P6 ∗ P8)) := by
  iintro ⟨⟨⟨H1, H2⟩, ⟨H3, H4⟩⟩, ⟨⟨H5, H6⟩, ⟨H7, H8⟩⟩⟩
  isplitl [H1 H3]; · (isplitl [H1]; · iexact H1); iexact H3
  isplitl [H5 H7]; · (isplitl [H5]; · iexact H5); iexact H7
  isplitl [H2 H4]; · (isplitl [H2]; · iexact H2); iexact H4
  isplitl [H6]; · iexact H6
  iexact H8
theorem eight_back (P1 P2 P3 P4 P5 P6 P7 P8 : sProp 𝕄) :
    iprop((P1 ∗ P3) ∗ (P5 ∗ P7) ∗ (P2 ∗ P4) ∗ (P6 ∗ P8)) ⊢ iprop(((P1 ∗ P2) ∗ (P3 ∗ P4)) ∗ ((P5 ∗ P6) ∗ (P7 ∗ P8))) := by
  iintro ⟨⟨H1, H3⟩, ⟨H5, H7⟩, ⟨H2, H4⟩, ⟨H6, H8⟩⟩
  isplitr [H5 H6 H7 H8]
  · isplitl [H1 H2]; · (isplitl [H1]; · iexact H1); iexact H2
    isplitl [H3]; · iexact H3
    iexact H4
  · isplitl [H5 H6]; · (isplitl [H5]; · iexact H5); iexact H6
    isplitl [H7]; · iexact H7
    iexact H8

/-- A strand's share of a family over the copies' cells. -/
def strand (Φ : OI → sProp 𝕄) (dir : Bool) (q : Fin 2) : sProp 𝕄 :=
  bigSep (Finset.range 8) fun a => iprop(Φ (dir, false, q, sl a) ∗ Φ (dir, true, q, sl (a + 1)))

/-- A family over the copies' cells, strand by strand. -/
theorem cells_strands (Φ : OI → sProp 𝕄) :
    bigSep Finset.univ Φ = iprop(strand Φ false 0 ∗ strand Φ true 0 ∗ strand Φ false 1 ∗ strand Φ true 1) := by
  have hs : ∀ dir q, strand Φ dir q = iprop((bigSep Finset.univ fun k => Φ (dir, false, q, k)) ∗ bigSep Finset.univ fun k => Φ (dir, true, q, k)) := by
    intro dir q
    unfold strand
    rw [bigSep_sep', ← sep_slots (fun k => Φ (dir, false, q, k)), ← sep_slots1 (fun k => Φ (dir, true, q, k))]
  rw [hs, hs, hs, hs, bigSep_univ_prod, sep_bool, bigSep_univ_prod, bigSep_univ_prod, sep_bool, sep_bool,
    bigSep_univ_prod, bigSep_univ_prod, bigSep_univ_prod, bigSep_univ_prod, sep_fin2, sep_fin2, sep_fin2, sep_fin2]
  exact BI.Entails.antisymm (eight_there _ _ _ _ _ _ _ _) (eight_back _ _ _ _ _ _ _ _)

section Body

variable (X : Dev nD → (cc0_stg0_0 : Ref sig .tc).ty.Contents (Elt F))
  (W : Dev nD → (cc0_stg1_0 : Ref sig .tc).ty.Contents (Elt F)) (K : Dev nD × CI → ℕ) (d : Dev nD)

/-! ## The start -/

/-- What a device pays with. -/
def payToks : sProp 𝕄 :=
  iprop(dutyTok ER (barCell (frm false d)) 0 false ∗ dutyTok ER (barCell (frm true d)) 0 true
    ∗ toks d false 0 0 ∗ toks d true 0 0 ∗ toks d false 1 0 ∗ toks d true 1 0)
/-- What stays with a device: its places at its cells, and what it pays with. -/
def linear : sProp 𝕄 :=
  iprop((bigSep Finset.univ fun k : CI => atPos ER (kcell (d, k)) 0 ∅ 0) ∗ payToks (F := F) d)
/-- The credits of what arrives. -/
def credsAll : sProp 𝕄 :=
  iprop(cred (tallyAt (barCell d) 0 2) ∗ creds (F := F) d false 0 0 ∗ creds (F := F) d true 0 0 ∗ creds (F := F) d false 1 0 ∗ creds (F := F) d true 1 0)
/-- The places of the four strands. -/
def placesAll (n : ℕ) : sProp 𝕄 :=
  iprop(places (F := F) d false 0 n ∗ places (F := F) d true 0 n ∗ places (F := F) d false 1 n ∗ places (F := F) d true 1 n)

theorem strand_places (dir : Bool) (q : Fin 2) :
    iprop(Ctx X W K ∗ strand (fun o => (atPos ER (kcell (d, some o)) 0 ∅ 0 : sProp 𝕄)) dir q) ⊢ places d dir q 0 := by
  unfold strand places
  refine sep_under _ _ _ _ fun a ha => ?_
  have h0 : cnt 0 a = 0 := by have := Finset.mem_range.mp ha; unfold cnt; omega
  rw [h0]
  unfold place
  iintro ⟨#Hctx, H1, H2⟩
  isplitl [H1]; · iexact H1
  isplitr; · iapply (ctx_reached X W K (d, some (dir, false, q, sl a))); iexact Hctx
  isplitl [H2]; · iexact H2
  iapply (ctx_reached X W K (d, some (dir, true, q, sl (a + 1)))); iexact Hctx

theorem linear_places :
    iprop(Ctx X W K ∗ bigSep Finset.univ fun k : CI => (atPos ER (kcell (d, k)) 0 ∅ 0 : sProp 𝕄))
      ⊢ iprop(atPos ER (barCell d) 0 ∅ 0 ∗ placesAll d 0) := by
  rw [sep_option, cells_strands]
  unfold placesAll
  iintro ⟨#Hctx, Hb, H1, H2, H3, H4⟩
  isplitl [Hb]; · iexact Hb
  isplitl [H1]
  · iapply (strand_places X W K d false 0); isplitr; · iexact Hctx
    iexact H1
  isplitl [H2]
  · iapply (strand_places X W K d true 0); isplitr; · iexact Hctx
    iexact H2
  isplitl [H3]
  · iapply (strand_places X W K d false 1); isplitr; · iexact Hctx
    iexact H3
  iapply (strand_places X W K d true 1); isplitr; · iexact Hctx
  iexact H4

/-- The barrier: the slots its neighbours fill first are given to them, and theirs received. -/
theorem wp_barP (Kt : PUnit → sProp 𝕄) :
    iprop(Ctx X W K ∗ owesE d (O₀ d) ∗ dutyTok ER (barCell (frm false d)) 0 false ∗ dutyTok ER (barCell (frm true d)) 0 true
        ∗ barPay false (frm false d) ∗ barPay true (frm true d) ∗ cred (tallyAt (barCell d) 0 2) ∗ atPos ER (barCell d) 0 ∅ 0
        ∗ ((owesE d (owed d (cst 0)) ∗ barPay false d ∗ barPay true d ∗ atPos ER (barCell d) 1 ∅ 0) -∗ Kt ⟨⟩))
      ⊢ WP d (barP d) Kt := by
  unfold barP owesE
  simp only [semSignalWord, semWaitWord, Prog.lift, Prog.bind_op, Prog.bind_ret, Prog.pure_eq_ret]
  iintro ⟨#Hctx, ⟨%Ws, Ho⟩, Ht1, Ht2, Hp1, Hp2, Hcr, Hat, Hk⟩
  rw [dev1_eq d, dev2_eq d]
  iapply (Rounds.wp_signal 𝒱₀ ER (ringRd X W) (d : Thread nD τ) none (dst := (frm false d : Thread nD τ)) (κ := K (frm false d, none))
      (d := false) (by rw [duties_bar]; exact Finset.mem_univ _) ((amount_bar X W (frm false d) false).trans (by decide)) 0 (O₁ d) rfl)
    $$ [Ho Ht1 Hp1]
  · isplitr; · iapply (ctx_inv X W K (frm false d, none)); iexact Hctx
    isplitl [Ho]; · iexact Ho
    isplitl [Ht1]; · iexact Ht1
    isplitl [Hp1]; · rw [payload_bar]; iexact Hp1
    iapply (ctx_reached X W K (frm false d, none)); iexact Hctx
  iintro Ho
  unfold O₁
  iapply (Rounds.wp_signal 𝒱₀ ER (ringRd X W) (d : Thread nD τ) none (dst := (frm true d : Thread nD τ)) (κ := K (frm true d, none))
      (d := true) (by rw [duties_bar]; exact Finset.mem_univ _) ((amount_bar X W (frm true d) true).trans (by decide)) 0 (owed d (cst 0)) rfl)
    $$ [Ho Ht2 Hp2]
  · isplitr; · iapply (ctx_inv X W K (frm true d, none)); iexact Hctx
    isplitl [Ho]; · iexact Ho
    isplitl [Ht2]; · iexact Ht2
    isplitl [Hp2]; · rw [payload_bar]; iexact Hp2
    iapply (ctx_reached X W K (frm true d, none)); iexact Hctx
  iintro Ho
  iapply (Rounds.wp_wait_rest_token 𝒱₀ ER (ringRd X W) (d : Thread nD τ) none (κ := K (d, none))
      (wpE_semWait_eq 𝒱₀ (d : Thread nD τ) none Set.univ) (Set.mem_univ _) 0 (O := owed d (cst 0)) (W := Ws) (R := 0) (m := 0) (T := ∅)
      (by rw [expect_bar]; decide)) $$ [Hcr Ho Hat]
  · isplitr; · iapply (ctx_inv X W K (d, none)); iexact Hctx
    isplitl [Hcr]; · iexact Hcr
    isplitl [Ho]; · iexact Ho
    isplitr
    · iapply (mayWait_owed d (cst 0) _ _ 1 (round_mem d _ 0 (by decide)) le_rfl (fun _ _ => by show 1 < 0 + 2; decide))
      iapply (ctx_lev X W K); iexact Hctx
    iexact Hat
  iintro ⟨Ho, Hat, -, Hpay⟩
  ihave Hp := (Entails.of_eq (rest_bar X W d)) $$ Hpay
  icases Hp with ⟨Hp1, Hp2⟩
  rw [wp_ret]; imodintro
  iapply Hk
  isplitl [Ho]; · iexists _; iexact Ho
  isplitl [Hp1]; · iexact Hp1
  isplitl [Hp2]; · iexact Hp2
  iexact Hat

/-- The slots a direction's buffer is split into, as what the device copying into them is given. -/
theorem buf_gift (dir : Bool) : bufP d dir ⊢ (iprop((∃ f, rowP d dir 0 f) ∗ barPay dir (frm dir d)) : sProp 𝕄) := by
  unfold barPay gift
  rw [peer_frm]
  exact buf_split d dir

/-- What a strand starts from. -/
theorem st_zero (dir : Bool) (q : Fin 2) (v : Vec F S1x128x1024 .bf16) :
    iprop(places d dir q 0 ∗ toks d dir q 0 ∗ creds d dir q 0 ∗ slotP d dir q (sl 0) fullShare v ∗ gift dir q 0 d) ⊢ St d dir q 0 v := by
  unfold St
  rw [done_none d dir q 0 (by decide)]
  iintro ⟨H1, H2, H3, H4, H5⟩
  isplitl [H1]; · iexact H1
  isplitl [H2]; · iexact H2
  isplitl [H3]; · iexact H3
  isplitl [H4]; · iexact H4
  isplitr; · unfold hold; iempintro
  isplitl [H5]; · iexact H5
  iempintro

/-- The barrier, the first slots, and the first copies. -/
theorem wp_startAll (Kt : PUnit → sProp 𝕄) :
    iprop(Ctx X W K ∗ owesE d (O₀ d) ∗ linear d ∗ credsAll d ∗ bufP d false ∗ bufP d true ∗ xP X d ∗ wP W d
        ∗ ((owesE d (owed d (cst 1)) ∗ Sents X W d 0 ∗ xP X d ∗ wP W d ∗ atPos ER (barCell d) 1 ∅ 0) -∗ Kt ⟨⟩))
      ⊢ WP d (startAll d) Kt := by
  unfold startAll linear payToks credsAll
  iintro ⟨#Hctx, Ho, ⟨Hat, Ht1, Ht2, Hta, Htb, Htc, Htd⟩, ⟨Hcr, Hca, Hcb, Hcc, Hcd⟩, Hbf, Hbt, Hx, Hw, Hk⟩
  ihave Hpl := (linear_places X W K d) $$ [Hat]
  · isplitr; · iexact Hctx
    iexact Hat
  unfold placesAll
  icases Hpl with ⟨Hat, Hpa, Hpb, Hpc, Hpd⟩
  ihave Hbf := (buf_gift (F := F) d false) $$ Hbf
  icases Hbf with ⟨Hrf, Hgf⟩
  ihave Hbt := (buf_gift (F := F) d true) $$ Hbt
  icases Hbt with ⟨Hrt, Hgt⟩
  iapply (wp_seq d)
  iapply (wp_barP X W K d)
  isplitr; · iexact Hctx
  isplitl [Ho]; · iexact Ho
  isplitl [Ht1]; · iexact Ht1
  isplitl [Ht2]; · iexact Ht2
  isplitl [Hgf]; · iexact Hgf
  isplitl [Hgt]; · iexact Hgt
  isplitl [Hcr]; · iexact Hcr
  isplitl [Hat]; · iexact Hat
  unfold barPay
  iintro ⟨Ho, ⟨Hga, Hgc⟩, ⟨Hgb, Hgd⟩, Hat⟩
  iapply (wp_seq d)
  iapply (wp_initP X W d false)
  isplitl [Hrf]; · iexact Hrf
  isplitl [Hx]; · iexact Hx
  isplitl [Hw]; · iexact Hw
  iintro ⟨Hsa, Hsc, Hx, Hw⟩
  iapply (wp_seq d)
  iapply (wp_initP X W d true)
  isplitl [Hrt]; · iexact Hrt
  isplitl [Hx]; · iexact Hx
  isplitl [Hw]; · iexact Hw
  iintro ⟨Hsb, Hsd, Hx, Hw⟩
  ihave Ha := (st_zero d false 0 _) $$ [Hpa Hta Hca Hsa Hga]
  · isplitl [Hpa]; · iexact Hpa
    isplitl [Hta]; · iexact Hta
    isplitl [Hca]; · iexact Hca
    isplitl [Hsa]; · iexact Hsa
    iexact Hga
  ihave Hb := (st_zero d true 0 _) $$ [Hpb Htb Hcb Hsb Hgb]
  · isplitl [Hpb]; · iexact Hpb
    isplitl [Htb]; · iexact Htb
    isplitl [Hcb]; · iexact Hcb
    isplitl [Hsb]; · iexact Hsb
    iexact Hgb
  ihave Hc := (st_zero d false 1 _) $$ [Hpc Htc Hcc Hsc Hgc]
  · isplitl [Hpc]; · iexact Hpc
    isplitl [Htc]; · iexact Htc
    isplitl [Hcc]; · iexact Hcc
    isplitl [Hsc]; · iexact Hsc
    iexact Hgc
  ihave Hd := (st_zero d true 1 _) $$ [Hpd Htd Hcd Hsd Hgd]
  · isplitl [Hpd]; · iexact Hpd
    isplitl [Htd]; · iexact Htd
    isplitl [Hcd]; · iexact Hcd
    isplitl [Hsd]; · iexact Hsd
    iexact Hgd
  have hat := cst_at 0
  iapply (wp_seq d)
  iapply (wp_copy X W K d false 0 0 (by decide) (cst 0) rfl)
  isplitr; · iexact Hctx
  isplitl [Ho]; · iexact Ho
  isplitl [Ha]; · iexact Ha
  iintro ⟨Ho, Ha⟩
  iapply (wp_seq d)
  iapply (wp_copy X W K d true 0 0 (by decide) _ hat.1)
  isplitr; · iexact Hctx
  isplitl [Ho]; · iexact Ho
  isplitl [Hb]; · iexact Hb
  iintro ⟨Ho, Hb⟩
  iapply (wp_seq d)
  iapply (wp_copy X W K d false 1 0 (by decide) _ hat.2.1)
  isplitr; · iexact Hctx
  isplitl [Ho]; · iexact Ho
  isplitl [Hc]; · iexact Hc
  iintro ⟨Ho, Hc⟩
  iapply (wp_copy X W K d true 1 0 (by decide) _ hat.2.2)
  isplitr; · iexact Hctx
  isplitl [Ho]; · iexact Ho
  isplitl [Hd]; · iexact Hd
  rw [show cst 0 = fun _ _ => 0 from rfl, bump_all 0]
  iintro ⟨Ho, Hd⟩
  iapply Hk
  unfold Sents
  isplitl [Ho]; · iexact Ho
  isplitr [Hx Hw Hat]
  · isplitl [Ha]; · iexact Ha
    isplitl [Hb]; · iexact Hb
    isplitl [Hc]; · iexact Hc
    iexact Hd
  isplitl [Hx]; · iexact Hx
  isplitl [Hw]; · iexact Hw
  iexact Hat

/-! ## The end -/

/-- A strand's end: its places, and its slots, whatever they hold. -/
theorem st_end (dir : Bool) (q : Fin 2) (v : Vec F S1x128x1024 .bf16) :
    St d dir q 14 v ⊢ iprop(places d dir q 14 ∗ bigSep (Finset.Ico 7 (7 + 8)) fun j => anyP d dir q (sl j)) := by
  have he : Finset.Ico 7 (7 + 8) = insert 14 (Finset.Ico 7 14) := by decide
  unfold St done
  rw [he, sep_put _ _ _ (by decide)]
  iintro ⟨H1, -, -, H4, -, -, H7⟩
  isplitl [H1]; · iexact H1
  isplitl [H4]
  · unfold anyP; iexists _; iexact H4
  iexact H7

/-- A strand's cells closed. -/
theorem strand_close (dir : Bool) (q : Fin 2) :
    iprop(Ctx X W K ∗ places d dir q 14) ⊢ |={Set.univ}=> strand (fun o => (semVal (kcell (d, some o)) 0 : sProp 𝕄)) dir q := by
  unfold strand places
  refine (sep_under _ _ _ (fun a => iprop(|={Set.univ}=> (semVal (kcell (d, some (dir, false, q, sl a))) 0
    ∗ semVal (kcell (d, some (dir, true, q, sl (a + 1)))) 0))) fun a ha => ?_).trans (bigSep_fupd _ _)
  have ha' := Finset.mem_range.mp ha
  unfold place
  iintro ⟨#Hctx, H1, -, H2, -⟩
  imod (Rounds.cell_close ER (ringRd X W) (Set.mem_univ (K (d, some (dir, false, q, sl a)))) (fun h => h) (R := cnt 14 a)
      (duties_past X W d (semOf dir false (sl a) q) (cnt 14 a) (by
        unfold stepOf; rw [rcvOf_semOf, slotOf_semOf, if_neg (by decide)]
        show 14 ≤ 8 * cnt 14 a + a % 8 % 8; unfold cnt; omega))) $$ [H1] with Hz1
  · isplitr; · iapply (ctx_inv X W K (d, some (dir, false, q, sl a))); iexact Hctx
    iexact H1
  imod (Rounds.cell_close ER (ringRd X W) (Set.mem_univ (K (d, some (dir, true, q, sl (a + 1))))) (fun h => h) (R := cnt 14 a)
      (duties_past X W d (semOf dir true (sl (a + 1)) q) (cnt 14 a) (by
        unfold stepOf; rw [rcvOf_semOf, slotOf_semOf, if_pos rfl]
        show 14 ≤ 8 * cnt 14 a + ((a + 1) % 8 + 7) % 8; unfold cnt; omega))) $$ [H2] with Hz2
  · isplitr; · iapply (ctx_inv X W K (d, some (dir, true, q, sl (a + 1)))); iexact Hctx
    iexact H2
  imodintro
  isplitl [Hz1]; · iexact Hz1
  iexact Hz2

/-- What a device gives back: the ring's buffers and its semaphores, at zero. -/
def Φ₁ : sProp 𝕄 :=
  iprop((bufP (F := F) d false ∗ bufP (F := F) d true) ∗ semVal (barCell d) 0 ∗ bigSep Finset.univ fun o : OI => semVal (kcell (d, some o)) 0)

theorem ended_close : iprop(Ctx X W K ∗ Ended X W d ∗ atPos ER (barCell d) 1 ∅ 0) ⊢ |={Set.univ}=> Φ₁ (F := F) d := by
  unfold Ended Φ₁
  rw [cells_strands]
  iintro ⟨#Hctx, ⟨Ha, Hb, Hc, Hd⟩, Hat⟩
  ihave Ha := (st_end d false 0 _) $$ Ha
  icases Ha with ⟨Hpa, Ha⟩
  ihave Hb := (st_end d true 0 _) $$ Hb
  icases Hb with ⟨Hpb, Hb⟩
  ihave Hc := (st_end d false 1 _) $$ Hc
  icases Hc with ⟨Hpc, Hc⟩
  ihave Hd := (st_end d true 1 _) $$ Hd
  icases Hd with ⟨Hpd, Hd⟩
  imod (Rounds.cell_close ER (ringRd X W) (Set.mem_univ (K (d, none))) (fun h => h) (R := 1) (duties_bar_past X W d)) $$ [Hat] with Hzb
  · isplitr; · iapply (ctx_inv X W K (d, none)); iexact Hctx
    iexact Hat
  imod (strand_close X W K d false 0) $$ [Hpa] with Hza
  · isplitr; · iexact Hctx
    iexact Hpa
  imod (strand_close X W K d true 0) $$ [Hpb] with Hzb'
  · isplitr; · iexact Hctx
    iexact Hpb
  imod (strand_close X W K d false 1) $$ [Hpc] with Hzc
  · isplitr; · iexact Hctx
    iexact Hpc
  imod (strand_close X W K d true 1) $$ [Hpd] with Hzd
  · isplitr; · iexact Hctx
    iexact Hpd
  imodintro
  isplitl [Ha Hb Hc Hd]
  · isplitl [Ha Hc]
    · iapply (buf_join d false 7)
      isplitl [Ha]; · iexact Ha
      iexact Hc
    iapply (buf_join d true 7)
    isplitl [Hb]; · iexact Hb
    iexact Hd
  isplitl [Hzb]; · iexact Hzb
  isplitl [Hza]; · iexact Hza
  isplitl [Hzb']; · iexact Hzb'
  isplitl [Hzc]; · iexact Hzc
  iexact Hzd

/-! ## The whole body -/

/-- The body on a device: from what the launch deals it to the result filled and everything given back. -/
theorem wp_bodyD (f : Buf (Elt F) ((d : Thread nD τ).loc cc0_stg2_0)) (Kt : PUnit → sProp 𝕄) :
    iprop(Ctx X W K ∗ owesE d (O₀ d) ∗ linear d ∗ credsAll d ∗ bufP d false ∗ bufP d true ∗ xP X d ∗ wP W d
        ∗ (((d : Thread nD τ).loc cc0_stg2_0) ↦{fullShare} f)
        ∗ ((owesE d 0 ∗ Φ₁ d ∗ xP X d ∗ wP W d ∗ outP X W d (cst 8)) -∗ Kt ⟨⟩))
      ⊢ WP d (bodyD d) Kt := by
  unfold bodyD
  iintro ⟨#Hctx, Ho, Hl, Hc, Hb1, Hb2, Hx, Hw, Hout, Hk⟩
  ihave Hout := (outP_none X W d f) $$ Hout
  iapply (wp_seq d)
  iapply (wp_startAll X W K d)
  isplitr; · iexact Hctx
  isplitl [Ho]; · iexact Ho
  isplitl [Hl]; · iexact Hl
  isplitl [Hc]; · iexact Hc
  isplitl [Hb1]; · iexact Hb1
  isplitl [Hb2]; · iexact Hb2
  isplitl [Hx]; · iexact Hx
  isplitl [Hw]; · iexact Hw
  iintro ⟨Ho, Hs, Hx, Hw, Hat⟩
  iapply (wp_seq d)
  iapply (wp_redAll X W K d 0 (by decide))
  isplitr; · iexact Hctx
  isplitl [Ho]; · iexact Ho
  isplitl [Hs]; · iexact Hs
  isplitl [Hx]; · iexact Hx
  isplitl [Hw]; · iexact Hw
  iintro ⟨Ho, Hs, Hx, Hw⟩
  iapply (wp_seq d)
  iapply (wp_redAll X W K d 1 (by decide))
  isplitr; · iexact Hctx
  isplitl [Ho]; · iexact Ho
  isplitl [Hs]; · iexact Hs
  isplitl [Hx]; · iexact Hx
  isplitl [Hw]; · iexact Hw
  iintro ⟨Ho, Hs, Hx, Hw⟩
  iapply (wp_seq d)
  iapply (wp_redAll X W K d 2 (by decide))
  isplitr; · iexact Hctx
  isplitl [Ho]; · iexact Ho
  isplitl [Hs]; · iexact Hs
  isplitl [Hx]; · iexact Hx
  isplitl [Hw]; · iexact Hw
  iintro ⟨Ho, Hs, Hx, Hw⟩
  iapply (wp_seq d)
  iapply (wp_redAll X W K d 3 (by decide))
  isplitr; · iexact Hctx
  isplitl [Ho]; · iexact Ho
  isplitl [Hs]; · iexact Hs
  isplitl [Hx]; · iexact Hx
  isplitl [Hw]; · iexact Hw
  iintro ⟨Ho, Hs, Hx, Hw⟩
  iapply (wp_seq d)
  iapply (wp_redAll X W K d 4 (by decide))
  isplitr; · iexact Hctx
  isplitl [Ho]; · iexact Ho
  isplitl [Hs]; · iexact Hs
  isplitl [Hx]; · iexact Hx
  isplitl [Hw]; · iexact Hw
  iintro ⟨Ho, Hs, Hx, Hw⟩
  iapply (wp_seq d)
  iapply (wp_redAll X W K d 5 (by decide))
  isplitr; · iexact Hctx
  isplitl [Ho]; · iexact Ho
  isplitl [Hs]; · iexact Hs
  isplitl [Hx]; · iexact Hx
  isplitl [Hw]; · iexact Hw
  iintro ⟨Ho, Hs, Hx, Hw⟩
  iapply (wp_seq d)
  iapply (wp_actAll X W K d)
  isplitr; · iexact Hctx
  isplitl [Ho]; · iexact Ho
  isplitl [Hs]; · iexact Hs
  isplitl [Hx]; · iexact Hx
  isplitl [Hw]; · iexact Hw
  isplitl [Hout]; · iexact Hout
  iintro ⟨Ho, Hs, Hx, Hw, Hout⟩
  iapply (wp_seq d)
  iapply (wp_gatAll X W K d 0 (by decide))
  isplitr; · iexact Hctx
  isplitl [Ho]; · iexact Ho
  isplitl [Hs]; · iexact Hs
  isplitl [Hout]; · iexact Hout
  iintro ⟨Ho, Hs, Hout⟩
  iapply (wp_seq d)
  iapply (wp_gatAll X W K d 1 (by decide))
  isplitr; · iexact Hctx
  isplitl [Ho]; · iexact Ho
  isplitl [Hs]; · iexact Hs
  isplitl [Hout]; · iexact Hout
  iintro ⟨Ho, Hs, Hout⟩
  iapply (wp_seq d)
  iapply (wp_gatAll X W K d 2 (by decide))
  isplitr; · iexact Hctx
  isplitl [Ho]; · iexact Ho
  isplitl [Hs]; · iexact Hs
  isplitl [Hout]; · iexact Hout
  iintro ⟨Ho, Hs, Hout⟩
  iapply (wp_seq d)
  iapply (wp_gatAll X W K d 3 (by decide))
  isplitr; · iexact Hctx
  isplitl [Ho]; · iexact Ho
  isplitl [Hs]; · iexact Hs
  isplitl [Hout]; · iexact Hout
  iintro ⟨Ho, Hs, Hout⟩
  iapply (wp_seq d)
  iapply (wp_gatAll X W K d 4 (by decide))
  isplitr; · iexact Hctx
  isplitl [Ho]; · iexact Ho
  isplitl [Hs]; · iexact Hs
  isplitl [Hout]; · iexact Hout
  iintro ⟨Ho, Hs, Hout⟩
  iapply (wp_seq d)
  iapply (wp_gatAll X W K d 5 (by decide))
  isplitr; · iexact Hctx
  isplitl [Ho]; · iexact Ho
  isplitl [Hs]; · iexact Hs
  isplitl [Hout]; · iexact Hout
  iintro ⟨Ho, Hs, Hout⟩
  iapply (wp_fupd (Fr := frame) (wpE (defs₀ (F := F)) 𝒱₀ (d : Thread nD τ) none) Set.univ _ Kt)
  iapply (wp_endAll X W K d)
  isplitr; · iexact Hctx
  isplitl [Ho]; · iexact Ho
  isplitl [Hs]; · iexact Hs
  isplitl [Hout]; · iexact Hout
  iintro ⟨Ho, Hs, Hout⟩
  ihave Hend := (ended_close X W K d) $$ [Hs Hat]
  · isplitr; · iexact Hctx
    isplitl [Hs]; · iexact Hs
    iexact Hat
  rw [show owed d (cst 14) = 0 from owed_end d]
  imod Hend with Hend
  imodintro
  iapply Hk
  isplitl [Ho]; · iexact Ho
  isplitl [Hend]; · iexact Hend
  isplitl [Hx]; · iexact Hx
  isplitl [Hw]; · iexact Hw
  iexact Hout

end Body

end Cert.KernelIdeal.Ring

end
-- ==== Proof.KI.Data.lean ====
/- The pipeline's data on a device, and the body as the pipeline asks for it. -/
module

public import proofs.«01_k».proof.Proof.KI.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The machine at launch: any memory, any generator registers, every counter at zero. -/
def s₀ : MemSt nD τ sig (Elt F) := ⟨m, fun _ => 0, ρ⟩

/-- Device `c`'s columns of `x`, as staged. -/
def xstg (c : Dev nD) : (cc0_stg0_0 : Ref sig .tc).ty.Contents (Elt F) :=
  (win0_0.blk t0_0).view.read (Elt F) ((s₀ m ρ).mem ((c : Thread nD τ).loc main_arg0))
/-- Device `c`'s rows of the weights, as staged. -/
def wstg (c : Dev nD) : (cc0_stg1_0 : Ref sig .tc).ty.Contents (Elt F) :=
  (win0_1.blk t0_0).view.read (Elt F) ((s₀ m ρ).mem ((c : Thread nD τ).loc main_arg1))
/-- The result on device `c`. -/
def outAt (c : Dev nD) : (cc0_stg2_0 : Ref sig .tc).ty.Contents (Elt F) := tgt (xstg m ρ) (wstg m ρ) c

/-- What a device starts its body from, besides the ring's buffers. -/
def start (c : Dev nD) : sProp 𝕄 :=
  iprop((∃ K, Ctx (xstg m ρ) (wstg m ρ) K ∗ linear c) ∗ credsAll c)
def Φ₀ (c : Dev nD) : sProp 𝕄 := iprop(start m ρ c ∗ bufP c false ∗ bufP c true)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

/-- A staging buffer held whole, with its contents named. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

theorem owns_stg (c : Dev nD) (b : Ref sig .tc) (V : b.ty.Contents (Elt F)) :
    (owns (Ix := ℕ) (Name := ℕ) (U := UU) (Lvl := ℕ) (c : Thread nD τ) (Memref.whole b) fullShare V : sProp 𝕄) = stg c b V := by
  unfold owns; simp only [Memref.view_whole, View.read_whole, View.set_whole]

/-- The body's post on device `c`. -/
def bodyPost (c : Dev nD) : sProp 𝕄 :=
  iprop(Φ₁ c ∗ (dats m ρ 0 c).owesAt 0 t0_0.succ ∗ stg c cc0_stg0_0 (xstg m ρ c) ∗ stg c cc0_stg1_0 (wstg m ρ c)
    ∗ stg c cc0_stg2_0 (outAt m ρ c))
/-- The body's pre on device `c`. -/
def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

theorem sound_body (c : Dev nD) : bodyPre m ρ c ⊢ WP c bodyP (fun _ => bodyPost m ρ c) := by
  unfold bodyP bodyPre Φ₀ start
  simp only [Prog.lift, Prog.bind_op, Prog.bind_ret, wp_deviceId]
  iintro ⟨⟨⟨⟨%K, #Hctx, Hl⟩, Hcr⟩, Hb1, Hb2⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_x t0_0)]; rfl
  have hw : g1 = wstg m ρ c := by rw [hg1]; unfold Dat.before; rw [if_pos (fetch_w t0_0)]; rfl
  subst hx hw
  unfold Dat.owesAt Pipeline.owesWithin
  icases Ho with ⟨%Ws, %hW, HO⟩
  rw [show (dats m ρ 0 c).owed t0_0.castSucc = O₀ c from rfl]
  iapply (wp_bodyD (xstg m ρ) (wstg m ρ) K c g2)
  isplitr; · iexact Hctx
  isplitl [HO]; · unfold owesE; iexists Ws; iexact HO
  isplitl [Hl]; · iexact Hl
  isplitl [Hcr]; · iexact Hcr
  isplitl [Hb1]; · iexact Hb1
  isplitl [Hb2]; · iexact Hb2
  isplitl [Hx]; · unfold xP; iexact Hx
  isplitl [Hw]; · unfold wP; iexact Hw
  isplitl [Hout]; · iexact Hout
  unfold owesE xP wP
  iintro ⟨⟨%W', Ho⟩, Hend, Hx, Hw, Hout⟩
  unfold bodyPost Dat.owesAt Pipeline.owesWithin
  rw [show (dats m ρ 0 c).owed t0_0.succ = 0 from rfl]
  isplitl [Hend]; · iexact Hend
  isplitl [Ho]
  · iexists W'
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  ihave Hout := (outP_full (xstg m ρ) (wstg m ρ) c) $$ Hout
  iexact Hout

set_option maxRecDepth 100000 in
/-- The body on device `c`, as the pipeline calls it. -/
theorem body_obligation (c : Dev nD) : BodyObligation (dats (F := F) m ρ 0 c) (defs₀ (F := F)) 𝒱₀ 0 Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_stg]
  show bodyPre m ρ c ⊢ wp frame (wpE (defs₀ (F := F)) 𝒱₀ (c : Thread nD τ) none) Set.univ
    (cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  exact sound_body m ρ c

end Cert.KernelIdeal.Ring

end
-- ==== Proof.KI.Launch.lean ====
/- The launch: the ring's cells allocated and dealt, and the run of the program. -/
module

public import proofs.«01_k».proof.Proof.KI.Data
public import Idealize.ShloMosaic.Lib.Pipeline.CollectiveSegs
public import Idealize.ShloMosaic.Lib.Quiescent

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig ℕ (Elt F) ℕ UU ℕ

/-! ## The cells and the tokens -/

/-- The copies' semaphores. -/
abbrev osem : OI → SemLoc sig := fun x => .dma (semOf x.1 x.2.1 x.2.2.2 x.2.2.1)

theorem ownSemFacts : Pipeline.OwnSemFacts cfg0.spec osem := by decide

theorem kcell_injective : Function.Injective (kcell : Dev nD × CI → GSem nD τ sig) := by
  rintro ⟨c, k⟩ ⟨c', k'⟩ h
  rcases k with _ | ⟨a, b, q, s⟩ <;> rcases k' with _ | ⟨a', b', q', s'⟩
  · have h1 : c = c' := congrArg (fun g : GSem nD τ sig => g.1.1) h
    subst h1; rfl
  · exact absurd (congrArg Prod.snd h) (by intro h; cases h)
  · exact absurd (congrArg Prod.snd h) (by intro h; cases h)
  · have h1 : c = c' := congrArg (fun g : GSem nD τ sig => g.1.1) h
    obtain ⟨e1, e2, e3, e4⟩ := semOf_inj (SemLoc.dma.inj (congrArg Prod.snd h))
    subst h1 e1 e2 e3 e4; rfl
/-- The ring's cells, on all devices. -/
def ringCells : Finset (GSem nD τ sig) := Finset.univ.map ⟨kcell, kcell_injective⟩

/-- A device's duties: the barrier's two, and of each strand's semaphores one per step. -/
abbrev TI := Bool ⊕ (Bool × Bool × Fin 2 × Fin 14)
/-- The token of a duty. -/
abbrev tokOf (x : Dev nD × TI) : GSem nD τ sig × ℕ × Bool := match x.2 with
  | .inl b => (barCell x.1, 0, b)
  | .inr (dir, recv, q, s) => (((x.1 : Thread nD τ), .dma (semOf dir recv (sl (if recv then s.val + 1 else s.val)) q)), s.val / 8, false)
theorem tokOf_injective : Function.Injective (tokOf : Dev nD × TI → GSem nD τ sig × ℕ × Bool) := by
  rintro ⟨c, k⟩ ⟨c', k'⟩ h
  have h1 : (tokOf (c, k)).1.1.1 = (tokOf (c', k')).1.1.1 := congrArg (fun g : GSem nD τ sig × ℕ × Bool => g.1.1.1) h
  have h2 : (tokOf (c, k)).1.2 = (tokOf (c', k')).1.2 := congrArg (fun g : GSem nD τ sig × ℕ × Bool => g.1.2) h
  have h3 : (tokOf (c, k)).2 = (tokOf (c', k')).2 := congrArg Prod.snd h
  rcases k with b | ⟨dir, recv, q, s⟩ <;> rcases k' with b' | ⟨dir', recv', q', s'⟩
  · have e : b = b' := congrArg Prod.snd h3
    have e' : c = c' := h1
    subst e e'; rfl
  · exact absurd h2 (by intro h; cases h)
  · exact absurd h2 (by intro h; cases h)
  · obtain ⟨e1, e2, e3, e4⟩ := semOf_inj (SemLoc.dma.inj h2)
    have e' : c = c' := h1
    have e5 : s.val / 8 = s'.val / 8 := congrArg Prod.fst h3
    subst e1 e2 e4 e'
    have e6 : (if recv then s.val + 1 else s.val) % 8 = (if recv then s'.val + 1 else s'.val) % 8 := congrArg Fin.val e3
    have e7 : s = s' := Fin.ext (by cases recv <;> simp at e6 <;> omega)
    subst e7; rfl
/-- The tokens, of all devices. -/
def ringToks : Finset (GSem nD τ sig × ℕ × Bool) := Finset.univ.map ⟨tokOf, tokOf_injective⟩

/-- What the launch starts the two protocols from. -/
def u₀ : UU :=
  (initOf (Pipeline.cells cfgs cellOf_inj) (Pipeline.launchToks cfgs cellOf_inj), initOf ringCells ringToks)

/-- The tokens of a strand's sends from device `c`. -/
def mintS (dir : Bool) (q : Fin 2) (c : Dev nD) : sProp 𝕄 :=
  bigSep (Finset.Ico 0 14) fun s => dutyTok ER (scell c dir q s) (s / 8) false
/-- The tokens of a strand's receives at device `c`. -/
def mintR (dir : Bool) (q : Fin 2) (c : Dev nD) : sProp 𝕄 :=
  bigSep (Finset.Ico 0 14) fun s => dutyTok ER (rcell c dir q s) (s / 8) false
/-- The tokens of device `c`'s cells. -/
def ownToks (c : Dev nD) : sProp 𝕄 :=
  iprop(dutyTok ER (barCell c) 0 false ∗ dutyTok ER (barCell c) 0 true
    ∗ (mintS (F := F) false 0 c ∗ mintR (F := F) false 0 c) ∗ (mintS (F := F) true 0 c ∗ mintR (F := F) true 0 c)
    ∗ (mintS (F := F) false 1 c ∗ mintR (F := F) false 1 c) ∗ (mintS (F := F) true 1 c ∗ mintR (F := F) true 1 c))

theorem sep_steps (Φ : ℕ → sProp 𝕄) : (bigSep Finset.univ fun s : Fin 14 => Φ s.val) = bigSep (Finset.Ico 0 14) Φ := by
  rw [show Finset.Ico 0 14 = (Finset.univ : Finset (Fin 14)).map Fin.valEmbedding from by decide, bigSep_map]; rfl

theorem sep_four {I : Type} [Fintype I] [DecidableEq I] (Φ : Bool × Bool × Fin 2 × I → sProp 𝕄) :
    bigSep Finset.univ Φ = iprop(
      ((bigSep Finset.univ fun k => Φ (false, false, 0, k)) ∗ bigSep Finset.univ fun k => Φ (false, true, 0, k))
      ∗ ((bigSep Finset.univ fun k => Φ (true, false, 0, k)) ∗ bigSep Finset.univ fun k => Φ (true, true, 0, k))
      ∗ ((bigSep Finset.univ fun k => Φ (false, false, 1, k)) ∗ bigSep Finset.univ fun k => Φ (false, true, 1, k))
      ∗ ((bigSep Finset.univ fun k => Φ (true, false, 1, k)) ∗ bigSep Finset.univ fun k => Φ (true, true, 1, k))) := by
  rw [bigSep_univ_prod, sep_bool, bigSep_univ_prod, bigSep_univ_prod, sep_bool, sep_bool,
    bigSep_univ_prod, bigSep_univ_prod, bigSep_univ_prod, bigSep_univ_prod, sep_fin2, sep_fin2, sep_fin2, sep_fin2]
  exact BI.Entails.antisymm (eight_there _ _ _ _ _ _ _ _) (eight_back _ _ _ _ _ _ _ _)

theorem sep_sum (Φ : TI → sProp 𝕄) :
    bigSep Finset.univ Φ = iprop((bigSep Finset.univ fun b => Φ (.inl b)) ∗ bigSep Finset.univ fun x => Φ (.inr x)) :=
  BI.bigSep_univ_sum Φ

theorem minted (c : Dev nD) : (bigSep Finset.univ fun j : TI => (dutyTok ER (tokOf (c, j)).1 (tokOf (c, j)).2.1 (tokOf (c, j)).2.2 : sProp 𝕄)) ⊢ ownToks c := by
  rw [sep_sum, sep_bool, sep_four]
  unfold ownToks
  have hS : ∀ dir q, (bigSep Finset.univ fun k : Fin 14 => (dutyTok ER (tokOf (c, .inr (dir, false, q, k))).1
      (tokOf (c, .inr (dir, false, q, k))).2.1 (tokOf (c, .inr (dir, false, q, k))).2.2 : sProp 𝕄)) = mintS dir q c := fun dir q =>
    sep_steps fun s => dutyTok ER (scell c dir q s) (s / 8) false
  have hR : ∀ dir q, (bigSep Finset.univ fun k : Fin 14 => (dutyTok ER (tokOf (c, .inr (dir, true, q, k))).1
      (tokOf (c, .inr (dir, true, q, k))).2.1 (tokOf (c, .inr (dir, true, q, k))).2.2 : sProp 𝕄)) = mintR dir q c := fun dir q =>
    sep_steps fun s => dutyTok ER (rcell c dir q s) (s / 8) false
  rw [hS, hR, hS, hR, hS, hR, hS, hR]
  iintro ⟨⟨H1, H2⟩, H3⟩
  isplitl [H1]; · iexact H1
  isplitl [H2]; · iexact H2
  iexact H3

theorem toks_mint (c : Dev nD) (dir : Bool) (q : Fin 2) :
    (toks (F := F) c dir q 0) = iprop(mintS dir q c ∗ mintR dir q (peer c dir)) := by
  unfold toks mintS mintR; rw [bigSep_sep']

/-- The tokens dealt to the devices that pay with them. -/
theorem toks_around : (bigSep Finset.univ fun c : Dev nD => (ownToks c : sProp 𝕄)) ⊢ bigSep Finset.univ fun c : Dev nD => payToks c := by
  unfold ownToks payToks
  simp only [toks_mint, bigSep_sep']
  rw [bigSep_univ_equiv (rot false).symm (fun c : Dev nD => (dutyTok ER (barCell c) 0 false : sProp 𝕄)),
    bigSep_univ_equiv (rot true).symm (fun c : Dev nD => (dutyTok ER (barCell c) 0 true : sProp 𝕄)),
    bigSep_univ_equiv (rot false) (mintR (F := F) false 0), bigSep_univ_equiv (rot true) (mintR (F := F) true 0),
    bigSep_univ_equiv (rot false) (mintR (F := F) false 1), bigSep_univ_equiv (rot true) (mintR (F := F) true 1)]
  exact BI.Entails.refl _

section Launch

variable (m : (ℓ : Loc nD τ sig) → Buf (Elt F) ℓ) (ρ : Dev nD → PrngReg)

/-- The ring's schedule, at the blocks the launch stages. -/
abbrev Rd := ringRd (xstg m ρ) (wstg m ρ)

/-- What the launch deals device `c`. -/
def G (c : Dev nD) : sProp 𝕄 :=
  iprop((bigSep Finset.univ fun k : CI => roundState ER (Rd m ρ) (kcell (c, k)) 0)
    ∗ (bigSep Finset.univ fun k : CI => atPos ER (kcell (c, k)) 0 ∅ 0) ∗ (bigSep Finset.univ fun k : CI => reached ER (kcell (c, k)) 0) ∗ ownToks c)

/-- What the devices make of it together, but for the levels. -/
def G' (c : Dev nD) : sProp 𝕄 :=
  iprop(∃ K : Dev nD × CI → ℕ, ((bigSep Finset.univ fun x : Dev nD × CI => cellInv ER (Rd m ρ) (K x) (kcell x))
    ∗ (bigSep Finset.univ fun x : Dev nD × CI => reached ER (kcell x) 0)) ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => ownToks c := by
    unfold ringToks; rw [bigSep_map, bigSep_univ_prod]
    exact bigSep_mono fun c _ => minted c
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat]; · iexact Hat
  isplitl [Hr]; · iexact Hr
  iexact Htok

theorem ownSems0_eq (c : Dev nD) : (Pipeline.ownSems0 (Ix := ℕ) (Name := ℕ) (U := UU) (Lvl := ℕ) (Val := Elt F) (τ := τ) osem c : sProp 𝕄)
    = bigSep Finset.univ fun o : OI => semVal (kcell (c, some o)) 0 := rfl
theorem unscopedSems0_eq (c : Dev nD) : (unscopedSems0 c : sProp 𝕄) = semVal (barCell c) 0 := by
  unfold unscopedSems0; rw [bigSep_eq_bigSepL_of_eq [SemLoc.reg barS.sem] (by decide) (by decide)]; rfl

theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, sep_option]
  iintro ⟨HS, HB⟩
  isplitl [HB]; · iexact HB
  iexact HS

/-- A device's cells allocated. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ (bigSep Finset.univ fun k : CI => atPos ER (kcell (c, k)) 0 ∅ 0) ∗ (bigSep Finset.univ fun k : CI => reached ER (kcell (c, k)) 0) ∗ ownToks c) := by
  have halloc : iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hrest⟩
  ihave Hv := (sems0 (F := F) c) $$ [Hos Hus]
  · isplitl [Hos] <;> iassumption
  imod halloc $$ [Hv Hst] with Hinv
  · isplitl [Hv] <;> iassumption
  imodintro
  isplitl [Hinv]; · iexact Hinv
  iexact Hrest

/-- What every device knows of the cells. -/
def records (K : Dev nD × CI → ℕ) : sProp 𝕄 :=
  iprop((bigSep Finset.univ fun x : Dev nD × CI => cellInv ER (Rd m ρ) (K x) (kcell x))
    ∗ (bigSep Finset.univ fun x : Dev nD × CI => reached ER (kcell x) 0))
instance records_persistent (K : Dev nD × CI → ℕ) : BI.Persistent (records m ρ K) := by unfold records; infer_instance

theorem linear_dealt :
    iprop((bigSep Finset.univ fun c : Dev nD => bigSep Finset.univ fun k : CI => (atPos ER (kcell (c, k)) 0 ∅ 0 : sProp 𝕄))
      ∗ bigSep Finset.univ fun c : Dev nD => payToks c) ⊢ bigSep Finset.univ fun c : Dev nD => (linear c : sProp 𝕄) := by
  unfold linear; rw [bigSep_sep']

theorem regroup :
    (bigSep Finset.univ fun c : Dev nD => iprop((bigSep Finset.univ fun k : CI => iprop(∃ κ : ℕ, cellInv ER (Rd m ρ) κ (kcell (c, k))))
          ∗ (bigSep Finset.univ fun k : CI => atPos ER (kcell (c, k)) 0 ∅ 0) ∗ (bigSep Finset.univ fun k : CI => reached ER (kcell (c, k)) 0) ∗ ownToks c) : sProp 𝕄)
      ⊢ bigSep Finset.univ (G' m ρ) := by
  rw [bigSep_sep', bigSep_sep', bigSep_sep', ← bigSep_univ_prod (fun ck : Dev nD × CI => iprop(∃ κ : ℕ, cellInv ER (Rd m ρ) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  ihave Hlin := (linear_dealt (F := F)) $$ [Hat Htk]
  · isplitl [Hat] <;> iassumption
  iapply (sep_under Finset.univ (records m ρ K) linear (G' m ρ) fun c _ => (by
    unfold records G'
    iintro ⟨H1, H2⟩
    iexists K
    isplitl [H1]; · iexact H1
    iexact H2))
  isplitr
  · unfold records; isplitl; · iexact HI
    iexact HR
  iexact Hlin

/-- The devices' cells allocated and their tokens dealt. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch's credits -/

theorem cred_strand (dir : Bool) (q : Fin 2) (c : Dev nD) :
    (Pipeline.launchCred (fun d => owed1 d dir q 0) c : sProp 𝕄) ⊢ creds c dir q 0 := by
  unfold owed1 creds
  rw [Pipeline.launchCred_sum]
  exact bigSep_mono fun s _ => Pipeline.launchCred_tallyAt (.dma (semOf dir true (sl (s + 1)) q)) (fun d => peer d dir) (frm dir)
    (peer_frm dir) (frm_peer dir) (s / 8) N c

theorem cred_bar (dir : Bool) (c : Dev nD) :
    (Pipeline.launchCred (fun d => tallyAt (barCell (frm dir d)) 0 1) c : sProp 𝕄) ⊢ cred (tallyAt (barCell c) 0 1) :=
  Pipeline.launchCred_tallyAt (.reg barS.sem) (frm dir) (fun d => peer d dir) (frm_peer dir) (peer_frm dir) 0 1 c

theorem launch_creds (c : Dev nD) : (Pipeline.launchCred O₀ c : sProp 𝕄) ⊢ credsAll c := by
  have e : (O₀ : Dev nD → CellTallies nD τ sig ℕ) = fun d => (((((owed1 d false 0 0 + owed1 d true 0 0) + owed1 d false 1 0) + owed1 d true 1 0)
      + tallyAt (barCell (frm true d)) 0 1) + tallyAt (barCell (frm false d)) 0 1) := rfl
  rw [e, Pipeline.launchCred_add, Pipeline.launchCred_add, Pipeline.launchCred_add, Pipeline.launchCred_add, Pipeline.launchCred_add]
  unfold credsAll
  rw [show (tallyAt (barCell c) 0 2 : CellTallies nD τ sig ℕ) = tallyAt (barCell c) 0 1 + tallyAt (barCell c) 0 1 from (tallyAt_add _ _ 1 1).symm]
  iintro ⟨⟨⟨⟨⟨Ha, Hb⟩, Hc⟩, Hd⟩, H1⟩, H2⟩
  isplitl [H1 H2]
  · iapply (cred_add _ _).2
    isplitl [H1]; · iapply (cred_bar (F := F) true c); iexact H1
    iapply (cred_bar (F := F) false c); iexact H2
  isplitl [Ha]; · iapply (cred_strand (F := F) false 0 c); iexact Ha
  isplitl [Hb]; · iapply (cred_strand (F := F) true 0 c); iexact Hb
  isplitl [Hc]; · iapply (cred_strand (F := F) false 1 c); iexact Hc
  iapply (cred_strand (F := F) true 1 c); iexact Hd

/-! ### The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, #Hlev, Hcr, -, ⟨%K, ⟨HI, HR⟩, Hlin⟩⟩
  ihave Hc := (launch_creds (F := F) c) $$ Hcr
  imodintro
  unfold start Ctx
  isplitl
  · isplitr [Hc]
    · iexists K
      isplitr [Hlin]
      · isplitl [HI]; · iexact HI
        isplitl [HR]; · iexact HR
        iexact Hlev
      iexact Hlin
    iexact Hc
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufP
  iintro ⟨Hs, -, ⟨%f, H1⟩, ⟨%g, H2⟩⟩
  isplitl [Hs]; · iexact Hs
  isplitl [H1]
  · iexists f; iexact H1
  iexists g; iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufP
  iintro ⟨⟨⟨%f, H1⟩, ⟨%g, H2⟩⟩, HB, HS⟩
  isplitl [HB]; · iexact HB
  isplitl [HS]; · iexact HS
  isplitl [H1]
  · iexists f; iexact H1
  iexists g; iexact H2

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- What an array holds after the run. -/
def finalA (c : Dev nD) (w : Fin cfg0.W) : Buf (Elt F) ((cfg0.win w).arr.view.loc (c : Thread nD τ)) := (dats m ρ 0 c).arrAt w cfg0.N

/-- What the run leaves in memory. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every fair run of the program on the eight devices ends, with every array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Launch

end Cert.KernelIdeal.Ring

end
-- ==== Proof.KI.Value.lean ====
/- The result's values over the extended reals: the product of the whole arrays, activated. -/
module

public import proofs.«01_k».proof.Proof.KI.Launch
public import Idealize.ShloMosaic.Lib.MatmulPlain
public import Idealize.ShloMosaic.Lib.StackMember
public import Idealize.ShloMosaic.Lib.Pipeline.Value
public import Idealize.ShloMosaic.PureOps.Ideal.Laws

@[expose] public section

noncomputable section

namespace Cert.KernelIdeal.Ring

open Idealize.ShloMosaic Idealize.ShloMosaic.TcCoe Idealize.ShloMosaic.ValueIdx
open Cert.KernelIdeal Cert.KernelIdeal.Gen
open scoped BigOperators

/-- The activation of a value, as the kernel computes it. -/
def act (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

theorem actV_apply (a : FVec Ideal S128x1024 .f32) (i : S128x1024.Idx) : actV a i = act (a i) := rfl

/-- What is put in a slot is what is read of it. -/
theorem wide_slot (a : FVec Ideal S128x1024 .f32) : wideV (slotV (narrowV a)) = a := by
  unfold wideV slotV narrowV
  funext i
  show shapeCast S128x1024 (shapeCast S1x128x1024 (truncf .bf16 a bitsLt_bf16_f32 : FVec Ideal S128x1024 .bf16) _) _ i = a i
  rw [shapeCast_shapeCast]; rfl

/-- A product at an element. -/
theorem prodV_apply (x : Vec Ideal S256x256 .f32) (w : Vec Ideal S256x1024 .f32) (r : Fin 256) (c : Fin 1024) :
    prodV x w (ix2 r c) = ∑ k : Fin 256, x (ix2 r k) * w (ix2 k c) := by
  unfold prodV
  rw [shapeCast_self, shapeCast_self]
  refine (Ideal.matmul_plain_apply (M := 256) (K := 256) (N := 1024) none x w (constant S256x1024 .f32 0x00000000#32) r c).trans ?_
  show Ideal.ofBits .f32 0x00000000#32 + _ = _
  rw [Ideal.ofBits_zero_f32, zero_add]

section Value

variable (A B : S2048x2048.Idx → EReal)
  (X : Dev nD → (cc0_stg0_0 : Ref sig .tc).ty.Contents (Elt Ideal)) (W : Dev nD → (cc0_stg1_0 : Ref sig .tc).ty.Contents (Elt Ideal))

/-- Place `k` of device `e`'s part of the summed axis. -/
def pos (e : Dev nD) (k : Fin 256) : Fin 2048 := ⟨256 * e.val + k.val, by have := e.isLt; change e.val < 8 at this; omega⟩
/-- Device `e`'s part of the product at an element. -/
def part (e : Dev nD) (i j : Fin 2048) : EReal := ∑ k : Fin 256, A (ix2 i (pos e k)) * B (ix2 (pos e k) j)
/-- The product at an element. -/
def full (i j : Fin 2048) : EReal := ∑ k : Fin 2048, A (ix2 i k) * B (ix2 k j)

theorem sum_parts (i j : Fin 2048) : (∑ e : Dev nD, part A B e i j) = full A B i j := by
  unfold full part
  rw [← Finset.sum_product', ← Equiv.sum_comp (finProdFinEquiv : Fin 8 × Fin 256 ≃ Fin (8 * 256))
    (fun k : Fin 2048 => A (ix2 i k) * B (ix2 k j))]
  refine Finset.sum_congr rfl fun p _ => ?_
  have e : pos p.1 p.2 = finProdFinEquiv (m := 8) (n := 256) p := Fin.ext (by
    show 256 * p.1.val + p.2.val = p.2.val + 256 * p.1.val; omega)
  rw [e]

/-- Around the ring are all devices. -/
theorem around_inj : ∀ (dir : Bool) (d : Dev nD), ∀ a < 8, ∀ b < 8, (frm dir)^[a] d = (frm dir)^[b] d → a = b := by decide
theorem around_all : ∀ (dir : Bool) (d : Dev nD), (Finset.range 8).image (fun t => (frm dir)^[t] d) = Finset.univ := by decide
theorem sum_around (dir : Bool) (d : Dev nD) (g : Dev nD → EReal) : (∑ t ∈ Finset.range 8, g ((frm dir)^[t] d)) = ∑ e, g e := by
  rw [← around_all dir d, Finset.sum_image fun a ha b hb h => around_inj dir d a (Finset.mem_range.mp ha) b (Finset.mem_range.mp hb) h]

theorem xOff_eq : ∀ (d : Dev nD) (s : Fin 7) (dir : Bool), xOff d s dir = ![256 * ((frm dir)^[s.val + 1] d).val, 0] := by decide
theorem xOff_own : ∀ d : Dev nD, k0_off1 d = ![256 * d.val, 0] := by decide
theorem frm_last : ∀ (dir : Bool) (d : Dev nD), (frm dir)^[7] d = peer d dir := by decide

/-- Row `r` of half `q` of chunk `k`. -/
def row (k : Dev nD) (q : Fin 2) (r : Fin 128) : Fin 2048 :=
  ⟨256 * k.val + 128 * q.val + r.val, by have := k.isLt; change k.val < 8 at this; omega⟩
/-- Column `c` of a direction's half. -/
def col (dir : Bool) (c : Fin 1024) : Fin 2048 := ⟨wOff dir + c.val, by cases dir <;> show _ + c.val < 2048 <;> simp [wOff] <;> omega⟩

variable (hX : ∀ (c : Dev nD) (r : Fin 2048) (k : Fin 256), X c (ix2 r k) = A (ix2 r (pos c k)))
  (hW : ∀ (c : Dev nD) (k : Fin 256) (j : Fin 2048), W c (ix2 k j) = B (ix2 (pos c k) j))
include hX hW

/-- A device's product for a chunk, half of its rows: its part of the product there. -/
theorem half_part (d k : Dev nD) (dir : Bool) (q : Fin 2) (off : Fin 2 → ℕ) (h : ∀ a, off a + S256x256.size a ≤ S2048x256.size a)
    (ho : off = ![256 * k.val, 0]) (r : Fin 128) (c : Fin 1024) :
    halfV q (prodV (xV X d off h) (wV W d dir)) (ix2 r c) = part A B d (row k q r) (col dir c) := by
  subst ho
  have hr : 128 * q.val + r.val < 256 := by omega
  unfold halfV
  rw [extractStridedSlice_apply (k := (ix2 (⟨128 * q.val + r.val, hr⟩ : Fin 256) c : S256x1024.Idx)) _ _ _ _ (fun a => match a with
    | ⟨0, _⟩ => rfl
    | ⟨1, _⟩ => (Nat.zero_add _).symm), prodV_apply]
  unfold part
  refine Finset.sum_congr rfl fun j _ => ?_
  rw [← hX, ← hW]
  refine congrArg₂ (· * ·) (congrArg (X d) ?_) (congrArg (W d) ?_)
  · funext a; apply Fin.ext
    match a with
    | ⟨0, _⟩ => show 256 * k.val + 1 * (128 * q.val + r.val) = 256 * k.val + 128 * q.val + r.val; omega
    | ⟨1, _⟩ => show 0 + 1 * j.val = j.val; omega
  · funext a; apply Fin.ext
    match a with
    | ⟨0, _⟩ => show 0 + 1 * j.val = j.val; omega
    | ⟨1, _⟩ => show wOff dir + 1 * c.val = wOff dir + c.val; omega

/-- What device `d` sends at step `s ≤ 6`: the parts of the devices it has come through. -/
theorem msg_parts (dir : Bool) (q : Fin 2) (r : Fin 128) (c : Fin 1024) : ∀ (s : ℕ) (_ : s ≤ 6) (d : Dev nD),
    wideV (msg X W dir q s d) (ix2 r c)
      = ∑ t ∈ Finset.range (s + 1), part A B ((frm dir)^[t] d) (row ((frm dir)^[s] d) q r) (col dir c)
  | 0, _, d => by
    rw [show msg X W dir q 0 d = slotV (narrowV (halfV q (ownV X W d dir))) from by rw [msg], wide_slot, Finset.sum_range_one]
    exact half_part A B X W hX hW d d dir q _ _ (xOff_own d) r c
  | s + 1, hs, d => by
    rw [msg_red X W dir q s (by omega), wide_slot]
    have hv : (st7 s).val = s := Nat.mod_eq_of_lt (by omega)
    have hl := half_part A B X W hX hW d ((frm dir)^[s + 1] d) dir q _ (xOff_inb d (st7 s) dir) (by rw [xOff_eq, hv]) r c
    show wideV (msg X W dir q s (frm dir d)) (ix2 r c) + halfV q (locV X W d (st7 s) dir) (ix2 r c) = _
    rw [msg_parts dir q r c s (by omega), Finset.sum_range_succ' _ (s + 1)]
    exact congrArg₂ (· + ·) rfl hl

/-- A finished block: the whole product there, activated. -/
theorem fin_full (dir : Bool) (q : Fin 2) (d : Dev nD) (r : Fin 128) (c : Fin 1024) :
    finV X W dir q d (ix2 r c) = act (full A B (row (peer d dir) q r) (col dir c)) := by
  unfold finV
  rw [actV_apply]
  refine congrArg act ?_
  have hl := half_part A B X W hX hW d ((frm dir)^[7] d) dir q _ (xOff_inb d 6 dir) (xOff_eq d 6 dir) r c
  show wideV (msg X W dir q 6 (frm dir d)) (ix2 r c) + halfV q (locV X W d 6 dir) (ix2 r c) = _
  rw [msg_parts A B X W hX hW dir q r c 6 le_rfl, ← sum_parts, ← sum_around dir d, ← frm_last, Finset.sum_range_succ' _ 7]
  exact congrArg₂ (· + ·) rfl hl

/-- Device `d`'s result at an element. -/
theorem tgt_full (d : Dev nD) (i j : Fin 2048) : tgt X W d (ix2 i j : S2048x2048.Idx) = act (full A B i j) := by
  have hb : ∀ (k : Dev nD) (q : Fin 2) (dir : Bool), blkV X W d dir q k = finV X W dir q (frm dir k) := by
    intro k q dir
    unfold blkV
    by_cases h : frm dir k = d
    · rw [if_pos h, h]
    · rw [if_neg h, msg_act, wide_slot]
  have he := blk_emb (ix2 i j : S2048x2048.Idx)
  show blkV X W d (dirAt (ix2 i j)) (hlfAt (ix2 i j)) (chkAt (ix2 i j)) (inBlk (ix2 i j)) = _
  rw [hb]
  refine (congrArg (finV X W _ _ _) (eq_ix2 (inBlk (ix2 i j)))).trans
    ((fin_full A B X W hX hW _ _ _ (inBlk (ix2 i j) 0) (inBlk (ix2 i j) 1)).trans ?_)
  rw [peer_frm]
  refine congrArg act (congrArg₂ (full A B) (Fin.ext ?_) (Fin.ext ?_))
  · have := congrArg (fun x : S2048x2048.Idx => (x (0 : Fin 2)).val) he
    refine Eq.trans ?_ this
    show _ + _ = _ + 1 * _
    rw [one_mul]; rfl
  · have := congrArg (fun x : S2048x2048.Idx => (x (0 + 1 : Fin 2)).val) he
    refine Eq.trans ?_ this
    show _ + _ = _ + 1 * _
    rw [one_mul]; rfl

end Value

end Cert.KernelIdeal.Ring

end
-- ==== Proof.KI.Final.lean ====
/- The kernel's run, read at the program's arguments and result. -/
module

public import proofs.«01_k».proof.Proof.KI.Launch
public import proofs.«01_k».proof.Proof.Gen.KernelIdeal.Points
public import Idealize.ShloMosaic.Lib.Pipeline.Value

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (ρ : Dev nD → PrngReg)

/-- The staged inputs are the arguments. -/
theorem xstg_eq (c : Dev nD) : xstg m ρ c = m ((c : Thread nD τ).loc main_arg0) := by
  funext i
  refine congrArg (m ((c : Thread nD τ).loc main_arg0)) (funext fun a => Fin.ext ?_)
  match a with
  | ⟨0, _⟩ => show 0 * 2048 + 1 * (i 0).val = (i 0).val; omega
  | ⟨1, _⟩ => show 0 * 256 + 1 * (i 1).val = (i 1).val; omega
theorem wstg_eq (c : Dev nD) : wstg m ρ c = m ((c : Thread nD τ).loc main_arg1) := by
  funext i
  refine congrArg (m ((c : Thread nD τ).loc main_arg1)) (funext fun a => Fin.ext ?_)
  match a with
  | ⟨0, _⟩ => show 0 * 256 + 1 * (i 0).val = (i 0).val; omega
  | ⟨1, _⟩ => show 0 * 2048 + 1 * (i 1).val = (i 1).val; omega

/-- The result's window is the whole result. -/
theorem out_emb (i : S2048x2048.Idx) : (win0_2.blk t0_0).view.emb i = i := funext fun a => Fin.ext (match a with
  | ⟨0, _⟩ => by show 0 * 2048 + 1 * (i 0).val = (i 0).val; omega
  | ⟨1, _⟩ => by show 0 * 2048 + 1 * (i 1).val = (i 1).val; omega)

/-- The arguments end unchanged and the result ends at the body's. -/
theorem final_in0 (c : Dev nD) : finalA m ρ c (0 : Fin 3) = m ((c : Thread nD τ).loc main_arg0) := (dats (F := F) m ρ 0 c).arrAt_in (0 : Fin 3) rfl _
theorem final_in1 (c : Dev nD) : finalA m ρ c (1 : Fin 3) = m ((c : Thread nD τ).loc main_arg1) := (dats (F := F) m ρ 0 c).arrAt_in (1 : Fin 3) rfl _
theorem final_out (c : Dev nD) : finalA m ρ c (2 : Fin 3) = outAt m ρ c := by
  refine (dats (F := F) m ρ 0 c).arrAt_eq_of_cover (2 : Fin 3) (outAt m ρ c) ?_ ?_
  · intro t _
    rw [fin_N0 t]
    funext i
    exact (congrArg (outAt m ρ c) (out_emb i)).symm
  · intro i
    refine ⟨t0_0, flush0_2 t0_0, ?_⟩
    have := (win0_2.blk t0_0).view.emb_mem_set i
    rwa [out_emb i] at this

/-- The kernel's run: on every device the result is `tgt` of the arguments, the arguments are unchanged, every counter is zero. -/
theorem run_read : θ_run defs (onTc (τ := τ) (main (F := F))) ⟨m, fun _ => 0, ρ⟩ (fun r =>
    (∀ c : Dev nD, r.2.mem ((c.tc : Thread nD τ).loc main_v1)
        = tgt (fun e => m ((e.tc : Thread nD τ).loc main_arg0)) (fun e => m ((e.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run defs _ _).mono (fun r h => ⟨fun c => ⟨?_, ?_, ?_⟩, h.2⟩) (run_main m ρ)
  · refine (h.1 c (2 : Fin 3)).trans ((final_out m ρ c).trans ?_)
    unfold outAt
    exact congrArg₂ (fun a b => tgt a b c) (funext fun e => xstg_eq m ρ e) (funext fun e => wstg_eq m ρ e)
  · exact (h.1 c (0 : Fin 3)).trans (final_in0 m ρ c)
  · exact (h.1 c (1 : Fin 3)).trans (final_in1 m ρ c)

end Cert.KernelIdeal.Ring

end
-- ==== Proof.KI.Equal.lean ====
/- The kernel's result is the reference's, over the extended reals. -/
module

public import proofs.«01_k».proof.Defs
public import proofs.«01_k».proof.Proof.KI.Value
public import proofs.«01_k».proof.Proof.KI.Final
public import proofs.«01_k».proof.Proof.Gen.ReferenceIdeal.Run

@[expose] public section

noncomputable section

namespace Cert.KernelIdeal.Ring

open Idealize.ShloMosaic Idealize.ShloMosaic.TcCoe Idealize.ShloMosaic.ValueIdx Idealize.SL.Sem
open scoped BigOperators

local notation "Whole" => FVec Ideal Cert.ReferenceIdeal.S2048x2048 FTy.f32

/-- A constant over the whole array. -/
def refConst (b : BitVec 32) : Whole :=
  broadcastInDim Cert.ReferenceIdeal.S2048x2048 ![] Cert.ReferenceIdeal.Gen.bcast_S_S2048x2048 (constant Cert.ReferenceIdeal.S_ .f32 b)
/-- The reference's product. -/
def refDot (A B : Whole) : Whole := Host.dotGeneral Cert.ReferenceIdeal.dot_S2048x2048_S2048x2048_S2048x2048_1_0_0_1_n_n none A B
/-- The reference's result, of the whole arrays. -/
def refVal (A B : Whole) : Whole :=
  mulf (mulf (refConst 0x3F000000#32) (refDot A B)) (addf (refConst 0x3F800000#32) (Host.tanh (mulf (refConst 0x3F4C422A#32)
    (addf (refDot A B) (mulf (refConst 0x3D372713#32) (mulf (mulf (refDot A B) (refDot A B)) (refDot A B)))))))

/-- The reference's result at an element: the whole product there, activated. The cube is grouped differently
in the two programs; multiplication of extended reals is associative. -/
theorem refVal_apply (A B : Whole) (i j : Fin 2048) : refVal A B (ix2 i j) = act (full A B i j) := by
  have hd : refDot A B (ix2 i j) = full A B i j :=
    StackMember.dotGeneral_plain_apply (m := 2048) (k := 2048) (n := 2048) none A B i j
  show Ideal.ofBits .f32 0x3F000000#32 * refDot A B (ix2 i j) * (Ideal.ofBits .f32 0x3F800000#32
    + Ideal.tanh (Ideal.ofBits .f32 0x3F4C422A#32 * (refDot A B (ix2 i j) + Ideal.ofBits .f32 0x3D372713#32
      * (refDot A B (ix2 i j) * refDot A B (ix2 i j) * refDot A B (ix2 i j))))) = _
  rw [hd]
  unfold act
  rw [← mul_assoc (Ideal.ofBits .f32 0x3D372713#32), ← mul_assoc (Ideal.ofBits .f32 0x3D372713#32)]

/-- From each device's blocks of the whole arrays, every device's result is the reference's. -/
theorem tgt_ref (A B : Whole) (X : Dev nD → (cc0_stg0_0 : Ref sig .tc).ty.Contents (Elt Ideal))
    (W : Dev nD → (cc0_stg1_0 : Ref sig .tc).ty.Contents (Elt Ideal))
    (hX : ∀ c : Dev nD, X c = Layout.block ⟨2, ![2048, 256]⟩ ⟨2, ![2048, 2048]⟩ 1 8 c A)
    (hW : ∀ c : Dev nD, W c = Layout.block ⟨2, ![256, 2048]⟩ ⟨2, ![2048, 2048]⟩ 0 8 c B) (c : Dev nD) : tgt X W c = refVal A B := by
  funext i
  have e : (i : Cert.ReferenceIdeal.S2048x2048.Idx) = ix2 (i 0 : Fin 2048) (i 1 : Fin 2048) := eq_ix2 i
  rw [e]
  refine (tgt_full A B X W ?_ ?_ c (i 0) (i 1)).trans (refVal_apply A B (i 0) (i 1)).symm
  · intro d r k
    rw [hX]
    refine congrArg A (funext fun a => Fin.ext ?_)
    match a with
    | ⟨0, _⟩ => rfl
    | ⟨1, _⟩ => show d.val * 256 + k.val = 256 * d.val + k.val; omega
  · intro d k j
    rw [hW]
    refine congrArg B (funext fun a => Fin.ext ?_)
    match a with
    | ⟨0, _⟩ => show d.val * 256 + k.val = 256 * d.val + k.val; omega
    | ⟨1, _⟩ => rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Final
public import proofs.«01_k».proof.Proof.KI.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- All five claims: the kernel, its idealization and the reference run to their ends with their arguments unchanged and
every counter at zero; the idealization keeps the kernel's operations; and every device's result is the reference's. -/
theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Ring.run_read m g),
  fun m g _ => (θ_run _ _ _).mono (fun _ h => ⟨fun c => (h.1 c).2, h.2⟩) (Cert.KernelIdeal.Ring.run_read m g),
  fun m g _ => (θ_run _ _ _).mono (fun _ h => ⟨fun c => (h c).2, sem_eq_zero_of_no_sems rfl _⟩) (Cert.ReferenceIdeal.Value.run m g),
  trivial,
  fun m g m' g' _ hb => ⟨Cert.KernelIdeal.Ring.refVal _ _,
    (θ_run _ _ _).mono (fun _ h c => ⟨(h.1 c).1.trans (Cert.KernelIdeal.Ring.tgt_ref _ _ _ _ (fun d => (hb d).1) (fun d => (hb d).2) c),
      (h.1 c).2⟩) (Cert.KernelIdeal.Ring.run_read m g),
    (θ_run _ _ _).mono (fun _ h => h 0) (Cert.ReferenceIdeal.Value.run m' g')⟩⟩

end Cert.Proof

end
